-- ==== Defs.lean ====
def Pre_Kernel [hPre_rolled_1_Kernel : Cert.Pre_rolled_1_Kernel.Facts] (m : (ℓ : Loc Cert.Kernel.nD Cert.Kernel.τ Cert.Kernel.sig) → Buf (Elt Bits) ℓ) : Prop :=
  ∀ c : Dev Cert.Kernel.nD,
    (Cert.Pre_rolled_1_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_rolled_2_Kernel [hPre_rolled_2_Kernel : Cert.Pre_rolled_2_Kernel.Facts] (m : (ℓ : Loc Cert.Kernel.nD Cert.Kernel.τ Cert.Kernel.sig) → Buf (Elt Bits) ℓ) : Prop :=
  ∀ c : Dev Cert.Kernel.nD,
    (Cert.Pre_rolled_2_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_rolled_3_Kernel [hPre_rolled_3_Kernel : Cert.Pre_rolled_3_Kernel.Facts] (m : (ℓ : Loc Cert.Kernel.nD Cert.Kernel.τ Cert.Kernel.sig) → Buf (Elt Bits) ℓ) : Prop :=
  ∀ c : Dev Cert.Kernel.nD,
    (Cert.Pre_rolled_3_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_rolled_1_Kernel : Cert.Pre_rolled_1_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_rolled_1_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_rolled_2_Kernel [hPre_rolled_2_Kernel : Cert.Pre_rolled_2_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_rolled_2_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_rolled_3_Kernel [hPre_rolled_3_Kernel : Cert.Pre_rolled_3_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_rolled_3_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_rolled_1_ReferenceIdeal [hPre_rolled_1_ReferenceIdeal : Cert.Pre_rolled_1_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rolled_1_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_rolled_2_ReferenceIdeal [hPre_rolled_2_ReferenceIdeal : Cert.Pre_rolled_2_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rolled_2_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_rolled_3_ReferenceIdeal [hPre_rolled_3_ReferenceIdeal : Cert.Pre_rolled_3_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rolled_3_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_rolled_1_Kernel : Cert.Pre_rolled_1_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_rolled_2_Kernel [hKernel : Cert.Kernel.Facts] [hPre_rolled_2_Kernel : Cert.Pre_rolled_2_Kernel.Facts] : Prop :=
  ∀ (m : (ℓ : Loc Cert.Kernel.nD Cert.Kernel.τ Cert.Kernel.sig) → Buf (Elt Bits) ℓ) (g : Dev Cert.Kernel.nD → PrngReg), Pre_Kernel_rolled_2_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_rolled_3_Kernel [hKernel : Cert.Kernel.Facts] [hPre_rolled_3_Kernel : Cert.Pre_rolled_3_Kernel.Facts] : Prop :=
  ∀ (m : (ℓ : Loc Cert.Kernel.nD Cert.Kernel.τ Cert.Kernel.sig) → Buf (Elt Bits) ℓ) (g : Dev Cert.Kernel.nD → PrngReg), Pre_Kernel_rolled_3_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_rolled_1_Kernel : Cert.Pre_rolled_1_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_rolled_2_Kernel [hKernelIdeal : Cert.KernelIdeal.Facts] [hPre_rolled_2_Kernel : Cert.Pre_rolled_2_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rolled_2_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_rolled_3_Kernel [hKernelIdeal : Cert.KernelIdeal.Facts] [hPre_rolled_3_Kernel : Cert.Pre_rolled_3_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rolled_3_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_rolled_1_ReferenceIdeal [hReferenceIdeal : Cert.ReferenceIdeal.Facts] [hPre_rolled_1_ReferenceIdeal : Cert.Pre_rolled_1_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rolled_1_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_rolled_2_ReferenceIdeal [hReferenceIdeal : Cert.ReferenceIdeal.Facts] [hPre_rolled_2_ReferenceIdeal : Cert.Pre_rolled_2_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rolled_2_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_rolled_3_ReferenceIdeal [hReferenceIdeal : Cert.ReferenceIdeal.Facts] [hPre_rolled_3_ReferenceIdeal : Cert.Pre_rolled_3_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rolled_3_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_rolled_1_Kernel : Cert.Pre_rolled_1_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨3, ![1, 2048, 1024]⟩ ⟨3, ![4, 2048, 1024]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 2048, 1024]⟩ ⟨3, ![4, 2048, 1024]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v8) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_rolled_2_Kernel [hKernelIdeal : Cert.KernelIdeal.Facts] [hReferenceIdeal : Cert.ReferenceIdeal.Facts] [hPre_rolled_2_Kernel : Cert.Pre_rolled_2_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rolled_2_Kernel m →
    (∀ c : Dev Cert.KernelIdeal.nD,
      m ((c.tc : Thread Cert.KernelIdeal.nD Cert.KernelIdeal.τ).loc Cert.KernelIdeal.main_arg0) = Layout.block ⟨3, ![1, 2048, 1024]⟩ ⟨3, ![4, 2048, 1024]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 2048, 1024]⟩ ⟨3, ![4, 2048, 1024]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v8) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_rolled_3_Kernel [hKernelIdeal : Cert.KernelIdeal.Facts] [hReferenceIdeal : Cert.ReferenceIdeal.Facts] [hPre_rolled_3_Kernel : Cert.Pre_rolled_3_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rolled_3_Kernel m →
    (∀ c : Dev Cert.KernelIdeal.nD,
      m ((c.tc : Thread Cert.KernelIdeal.nD Cert.KernelIdeal.τ).loc Cert.KernelIdeal.main_arg0) = Layout.block ⟨3, ![1, 2048, 1024]⟩ ⟨3, ![4, 2048, 1024]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 2048, 1024]⟩ ⟨3, ![4, 2048, 1024]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v8) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_rolled_1_Kernel : Cert.Pre_rolled_1_Kernel.Facts) (hPre_rolled_2_Kernel : Cert.Pre_rolled_2_Kernel.Facts) (hPre_rolled_3_Kernel : Cert.Pre_rolled_3_Kernel.Facts) (hPre_rolled_1_ReferenceIdeal : Cert.Pre_rolled_1_ReferenceIdeal.Facts) (hPre_rolled_2_ReferenceIdeal : Cert.Pre_rolled_2_ReferenceIdeal.Facts) (hPre_rolled_3_ReferenceIdeal : Cert.Pre_rolled_3_ReferenceIdeal.Facts),
    quiescent_Kernel (hKernel := hKernel) (hPre_rolled_1_Kernel := hPre_rolled_1_Kernel)
    ∧ quiescent_Kernel_pre_rolled_2_Kernel (hKernel := hKernel) (hPre_rolled_2_Kernel := hPre_rolled_2_Kernel)
    ∧ quiescent_Kernel_pre_rolled_3_Kernel (hKernel := hKernel) (hPre_rolled_3_Kernel := hPre_rolled_3_Kernel)
    ∧ quiescent_KernelIdeal (hKernelIdeal := hKernelIdeal) (hPre_rolled_1_Kernel := hPre_rolled_1_Kernel)
    ∧ quiescent_KernelIdeal_pre_rolled_2_Kernel (hKernelIdeal := hKernelIdeal) (hPre_rolled_2_Kernel := hPre_rolled_2_Kernel)
    ∧ quiescent_KernelIdeal_pre_rolled_3_Kernel (hKernelIdeal := hKernelIdeal) (hPre_rolled_3_Kernel := hPre_rolled_3_Kernel)
    ∧ quiescent_ReferenceIdeal (hReferenceIdeal := hReferenceIdeal)
    ∧ quiescent_ReferenceIdeal_pre_rolled_1_ReferenceIdeal (hReferenceIdeal := hReferenceIdeal) (hPre_rolled_1_ReferenceIdeal := hPre_rolled_1_ReferenceIdeal)
    ∧ quiescent_ReferenceIdeal_pre_rolled_2_ReferenceIdeal (hReferenceIdeal := hReferenceIdeal) (hPre_rolled_2_ReferenceIdeal := hPre_rolled_2_ReferenceIdeal)
    ∧ quiescent_ReferenceIdeal_pre_rolled_3_ReferenceIdeal (hReferenceIdeal := hReferenceIdeal) (hPre_rolled_3_ReferenceIdeal := hPre_rolled_3_ReferenceIdeal)
    ∧ preserves_Kernel_KernelIdeal
    ∧ algebraic_KernelIdeal_ReferenceIdeal (hKernelIdeal := hKernelIdeal) (hReferenceIdeal := hReferenceIdeal) (hPre_rolled_1_Kernel := hPre_rolled_1_Kernel)
    ∧ algebraic_KernelIdeal_ReferenceIdeal_pre_rolled_2_Kernel (hKernelIdeal := hKernelIdeal) (hReferenceIdeal := hReferenceIdeal) (hPre_rolled_2_Kernel := hPre_rolled_2_Kernel)
    ∧ algebraic_KernelIdeal_ReferenceIdeal_pre_rolled_3_Kernel (hKernelIdeal := hKernelIdeal) (hReferenceIdeal := hReferenceIdeal) (hPre_rolled_3_Kernel := hPre_rolled_3_Kernel)
-- ==== Pre_rolled_1_Kernel.lean ====
abbrev S1x2048x1024 : Shape := ⟨3, ![1, 2048, 1024]⟩
abbrev S4 : Shape := ⟨1, ![4]⟩
abbrev S_ : Shape := ⟨0, ![]⟩

class Facts : Prop where
  bcast_S_S4 : S_.BroadcastsInDim S4 (![] : Fin 0 → Fin S4.rank)

variable [Facts]

def fn {F : FTy → Type} [FloatOps F] (main_arg0 : FVec F S1x2048x1024 .f32) (main_arg1 : IVec S4 32) : IVec S4 1 :=
  let main_v0 : IVec S4 32 := iotaInDim S4 32 0
  let main_c : IVec S_ 32 := constantI S_ 32 3#32
  let main_v1 : IVec S4 32 := broadcastInDim S4 ![] bcast_S_S4 main_c
  let main_v2 : IVec S4 32 := addi main_v0 main_v1
  let main_c_0 : IVec S_ 32 := constantI S_ 32 4#32
  let main_v3 : IVec S4 32 := broadcastInDim S4 ![] bcast_S_S4 main_c_0
  let main_v4 : IVec S4 32 := Host.remsi main_v2 main_v3
  let main_v5 : IVec S4 1 := cmpi .eq main_arg1 main_v4
  main_v5
-- ==== Pre_rolled_1_ReferenceIdeal.lean ====
abbrev S4x2048x1024 : Shape := ⟨3, ![4, 2048, 1024]⟩
abbrev S4 : Shape := ⟨1, ![4]⟩
abbrev S_ : Shape := ⟨0, ![]⟩

class Facts : Prop where
  bcast_S_S4 : S_.BroadcastsInDim S4 (![] : Fin 0 → Fin S4.rank)

variable [Facts]

def fn {F : FTy → Type} [FloatOps F] (main_arg0 : FVec F S4x2048x1024 .f32) (main_arg1 : IVec S4 32) : IVec S4 1 :=
  let main_v0 : IVec S4 32 := iotaInDim S4 32 0
  let main_c : IVec S_ 32 := constantI S_ 32 3#32
  let main_v1 : IVec S4 32 := broadcastInDim S4 ![] bcast_S_S4 main_c
  let main_v2 : IVec S4 32 := addi main_v0 main_v1
  let main_c_0 : IVec S_ 32 := constantI S_ 32 4#32
  let main_v3 : IVec S4 32 := broadcastInDim S4 ![] bcast_S_S4 main_c_0
  let main_v4 : IVec S4 32 := Host.remsi main_v2 main_v3
  let main_v5 : IVec S4 1 := cmpi .eq main_arg1 main_v4
  main_v5
-- ==== Pre_rolled_2_Kernel.lean ====
abbrev S1x2048x1024 : Shape := ⟨3, ![1, 2048, 1024]⟩
abbrev S4 : Shape := ⟨1, ![4]⟩
abbrev S_ : Shape := ⟨0, ![]⟩

class Facts : Prop where
  bcast_S_S4 : S_.BroadcastsInDim S4 (![] : Fin 0 → Fin S4.rank)

variable [Facts]

def fn {F : FTy → Type} [FloatOps F] (main_arg0 : FVec F S1x2048x1024 .f32) (main_arg1 : IVec S4 32) : IVec S4 1 :=
  let main_v0 : IVec S4 32 := iotaInDim S4 32 0
  let main_c : IVec S_ 32 := constantI S_ 32 2#32
  let main_v1 : IVec S4 32 := broadcastInDim S4 ![] bcast_S_S4 main_c
  let main_v2 : IVec S4 32 := addi main_v0 main_v1
  let main_c_0 : IVec S_ 32 := constantI S_ 32 4#32
  let main_v3 : IVec S4 32 := broadcastInDim S4 ![] bcast_S_S4 main_c_0
  let main_v4 : IVec S4 32 := Host.remsi main_v2 main_v3
  let main_v5 : IVec S4 1 := cmpi .eq main_arg1 main_v4
  main_v5
-- ==== Pre_rolled_2_ReferenceIdeal.lean ====
abbrev S4x2048x1024 : Shape := ⟨3, ![4, 2048, 1024]⟩
abbrev S4 : Shape := ⟨1, ![4]⟩
abbrev S_ : Shape := ⟨0, ![]⟩

class Facts : Prop where
  bcast_S_S4 : S_.BroadcastsInDim S4 (![] : Fin 0 → Fin S4.rank)

variable [Facts]

def fn {F : FTy → Type} [FloatOps F] (main_arg0 : FVec F S4x2048x1024 .f32) (main_arg1 : IVec S4 32) : IVec S4 1 :=
  let main_v0 : IVec S4 32 := iotaInDim S4 32 0
  let main_c : IVec S_ 32 := constantI S_ 32 2#32
  let main_v1 : IVec S4 32 := broadcastInDim S4 ![] bcast_S_S4 main_c
  let main_v2 : IVec S4 32 := addi main_v0 main_v1
  let main_c_0 : IVec S_ 32 := constantI S_ 32 4#32
  let main_v3 : IVec S4 32 := broadcastInDim S4 ![] bcast_S_S4 main_c_0
  let main_v4 : IVec S4 32 := Host.remsi main_v2 main_v3
  let main_v5 : IVec S4 1 := cmpi .eq main_arg1 main_v4
  main_v5
-- ==== Pre_rolled_3_Kernel.lean ====
abbrev S1x2048x1024 : Shape := ⟨3, ![1, 2048, 1024]⟩
abbrev S4 : Shape := ⟨1, ![4]⟩
abbrev S_ : Shape := ⟨0, ![]⟩

class Facts : Prop where
  bcast_S_S4 : S_.BroadcastsInDim S4 (![] : Fin 0 → Fin S4.rank)

variable [Facts]

def fn {F : FTy → Type} [FloatOps F] (main_arg0 : FVec F S1x2048x1024 .f32) (main_arg1 : IVec S4 32) : IVec S4 1 :=
  let main_v0 : IVec S4 32 := iotaInDim S4 32 0
  let main_c : IVec S_ 32 := constantI S_ 32 1#32
  let main_v1 : IVec S4 32 := broadcastInDim S4 ![] bcast_S_S4 main_c
  let main_v2 : IVec S4 32 := addi main_v0 main_v1
  let main_c_0 : IVec S_ 32 := constantI S_ 32 4#32
  let main_v3 : IVec S4 32 := broadcastInDim S4 ![] bcast_S_S4 main_c_0
  let main_v4 : IVec S4 32 := Host.remsi main_v2 main_v3
  let main_v5 : IVec S4 1 := cmpi .eq main_arg1 main_v4
  main_v5
-- ==== Pre_rolled_3_ReferenceIdeal.lean ====
abbrev S4x2048x1024 : Shape := ⟨3, ![4, 2048, 1024]⟩
abbrev S4 : Shape := ⟨1, ![4]⟩
abbrev S_ : Shape := ⟨0, ![]⟩

class Facts : Prop where
  bcast_S_S4 : S_.BroadcastsInDim S4 (![] : Fin 0 → Fin S4.rank)

variable [Facts]

def fn {F : FTy → Type} [FloatOps F] (main_arg0 : FVec F S4x2048x1024 .f32) (main_arg1 : IVec S4 32) : IVec S4 1 :=
  let main_v0 : IVec S4 32 := iotaInDim S4 32 0
  let main_c : IVec S_ 32 := constantI S_ 32 1#32
  let main_v1 : IVec S4 32 := broadcastInDim S4 ![] bcast_S_S4 main_c
  let main_v2 : IVec S4 32 := addi main_v0 main_v1
  let main_c_0 : IVec S_ 32 := constantI S_ 32 4#32
  let main_v3 : IVec S4 32 := broadcastInDim S4 ![] bcast_S_S4 main_c_0
  let main_v4 : IVec S4 32 := Host.remsi main_v2 main_v3
  let main_v5 : IVec S4 1 := cmpi .eq main_arg1 main_v4
  main_v5
-- ==== Kernel.lean ====
abbrev S1x2048x1024 : Shape := ⟨3, ![1, 2048, 1024]⟩
abbrev S4 : Shape := ⟨1, ![4]⟩
abbrev S2x256x1024 : Shape := ⟨3, ![2, 256, 1024]⟩
abbrev S2048x1024 : Shape := ⟨2, ![2048, 1024]⟩
abbrev S2 : Shape := ⟨1, ![2]⟩
abbrev S8 : Shape := ⟨1, ![8]⟩
abbrev S1 : Shape := ⟨1, ![1]⟩
abbrev S_ : Shape := ⟨0, ![]⟩
abbrev S1x256x1024 : Shape := ⟨3, ![1, 256, 1024]⟩
abbrev S256x1024 : Shape := ⟨2, ![256, 1024]⟩

abbrev nBuf : Space → Nat
  | .hbm => 3
  | .vmem => 2
  | .smem => 1
  | _ => 0

abbrev bufTy : (tb : Table) → Fin (tcTables nBuf tb) → BufTy
  | .hbm, ⟨0, _⟩ => ⟨S1x2048x1024, .f32⟩
  | .hbm, ⟨1, _⟩ => ⟨S4, .i32⟩
  | .hbm, ⟨2, _⟩ => ⟨S1x2048x1024, .bf16⟩
  | .local _ .vmem, ⟨0, _⟩ => ⟨S2x256x1024, .f32⟩
  | .local _ .vmem, ⟨1, _⟩ => ⟨S2048x1024, .bf16⟩
  | .local _ .smem, ⟨0, _⟩ => ⟨S4, .i32⟩
  | _, _ => ⟨S1x2048x1024, .f32⟩

abbrev bufScoped : (cs : CoreSpace) → Fin (nBuf (.core cs)) → Bool
  | .vmem, ⟨0, _⟩ => true
  | .vmem, ⟨1, _⟩ => true
  | .smem, ⟨0, _⟩ => true
  | _, _ => false

abbrev semScoped : Fin 1 → Bool
  | ⟨0, _⟩ => false
  | _ => false

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  (ofTc nBuf bufTy 1 19 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_scratch0 : Ref sig .tc := ⟨.vmem, 0, rfl⟩
abbrev cc0_scratch1 : Ref sig .tc := ⟨.vmem, 1, rfl⟩
abbrev cc0_stg0_0 : Ref sig .tc := ⟨.smem, 0, rfl⟩
abbrev cc0_sem0_0 : DmaSem sig := 0
abbrev barrier0 : Sem sig := 0

abbrev nD : Nat := 4
abbrev τ : Topo := Topo.v7x

variable {F : FTy → Type} [FloatOps F]

abbrev grid0 : Pipeline.Grid := .none

def k0_off1 (d0 : Dev nD) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : Index := Scalar.indexCast v2
  ![v3.toNat]
def k0_dev1 (v4 : BitVec 32) : Nat :=
  let c0_i32_4 : BitVec 32 := 0#32
  let c1_i32_3 : BitVec 32 := 1#32
  let v18 : BitVec 32 := Scalar.muli v4 c1_i32_3
  let v19 : BitVec 32 := Scalar.addi c0_i32_4 v18
  v19.toNat

def k0_dev2 (d0 : Dev nD) (v5 : BitVec 32) (v8 : BitVec 32) (v11 : BitVec 32) (v14 : BitVec 32) : Nat :=
  let c0_i32_7 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v15 : BitVec 1 := Scalar.cmpi .eq v14 v2
  let c3_i32 : BitVec 32 := 3#32
  let v12 : BitVec 1 := Scalar.cmpi .eq v11 v2
  let c2_i32 : BitVec 32 := 2#32
  let v9 : BitVec 1 := Scalar.cmpi .eq v8 v2
  let c1_i32_1 : BitVec 32 := 1#32
  let v6 : BitVec 1 := Scalar.cmpi .eq v5 v2
  let c0_i32 : BitVec 32 := 0#32
  let c0_i32_0 : BitVec 32 := 0#32
  let v7 : BitVec 32 := Scalar.select v6 c0_i32 c0_i32_0
  let v10 : BitVec 32 := Scalar.select v9 c1_i32_1 v7
  let v13 : BitVec 32 := Scalar.select v12 c2_i32 v10
  let v16 : BitVec 32 := Scalar.select v15 c3_i32 v13
  let c1_i32_6 : BitVec 32 := 1#32
  let v20 : BitVec 32 := Scalar.muli v16 c1_i32_6
  let v21 : BitVec 32 := Scalar.addi c0_i32_7 v20
  v21.toNat

def k0_chk2 (d0 : Dev nD) (v5 : BitVec 32) (v8 : BitVec 32) (v11 : BitVec 32) (v14 : BitVec 32) : Prop :=
  ((k0_dev2 d0 v5 v8 v11 v14) < nD)
theorem k0_dev2_lt : ∀ (d0 : Dev nD) (v5 : BitVec 32) (v8 : BitVec 32) (v11 : BitVec 32) (v14 : BitVec 32) (k0_hw2 : k0_chk2 d0 v5 v8 v11 v14), (k0_dev2 d0 v5 v8 v11 v14) < nD := fun d0 v5 v8 v11 v14 k0_hw2 => k0_hw2

def k0_dev3 (v4 : BitVec 32) : Nat :=
  let c0_i32_38 : BitVec 32 := 0#32
  let c1_i32_37 : BitVec 32 := 1#32
  let v46 : BitVec 32 := Scalar.muli v4 c1_i32_37
  let v47 : BitVec 32 := Scalar.addi c0_i32_38 v46
  v47.toNat
def k0_dev4 (v4 : BitVec 32) : Nat :=
  let c0_i32_64 : BitVec 32 := 0#32
  let c1_i32_63 : BitVec 32 := 1#32
  let v73 : BitVec 32 := Scalar.muli v4 c1_i32_63
  let v74 : BitVec 32 := Scalar.addi c0_i32_64 v73
  v74.toNat
def k0_dev5 (v4 : BitVec 32) : Nat :=
  let c0_i32_90 : BitVec 32 := 0#32
  let c1_i32_89 : BitVec 32 := 1#32
  let v100 : BitVec 32 := Scalar.muli v4 c1_i32_89
  let v101 : BitVec 32 := Scalar.addi c0_i32_90 v100
  v101.toNat
def k0_dev6 (v4 : BitVec 32) : Nat :=
  let c0_i32_116 : BitVec 32 := 0#32
  let c1_i32_115 : BitVec 32 := 1#32
  let v127 : BitVec 32 := Scalar.muli v4 c1_i32_115
  let v128 : BitVec 32 := Scalar.addi c0_i32_116 v127
  v128.toNat
def k0_dev7 (v4 : BitVec 32) : Nat :=
  let c0_i32_142 : BitVec 32 := 0#32
  let c1_i32_141 : BitVec 32 := 1#32
  let v154 : BitVec 32 := Scalar.muli v4 c1_i32_141
  let v155 : BitVec 32 := Scalar.addi c0_i32_142 v154
  v155.toNat
def k0_dev8 (v4 : BitVec 32) : Nat :=
  let c0_i32_167 : BitVec 32 := 0#32
  let c1_i32_166 : BitVec 32 := 1#32
  let v181 : BitVec 32 := Scalar.muli v4 c1_i32_166
  let v182 : BitVec 32 := Scalar.addi c0_i32_167 v181
  v182.toNat
def k0_dev9 (v4 : BitVec 32) : Nat :=
  let c0_i32_192 : BitVec 32 := 0#32
  let c1_i32_191 : BitVec 32 := 1#32
  let v208 : BitVec 32 := Scalar.muli v4 c1_i32_191
  let v209 : BitVec 32 := Scalar.addi c0_i32_192 v208
  v209.toNat
def k0_dev10 (v4 : BitVec 32) : Nat :=
  let c0_i32_211 : BitVec 32 := 0#32
  let c1_i32_210 : BitVec 32 := 1#32
  let v229 : BitVec 32 := Scalar.muli v4 c1_i32_210
  let v230 : BitVec 32 := Scalar.addi c0_i32_211 v229
  v230.toNat

def k0_chk1 (v4 : BitVec 32) : Prop :=
  ((k0_dev1 v4) < nD) ∧
  ((k0_dev3 v4) < nD) ∧
  ((k0_dev4 v4) < nD) ∧
  ((k0_dev5 v4) < nD) ∧
  ((k0_dev6 v4) < nD) ∧
  ((k0_dev7 v4) < nD) ∧
  ((k0_dev8 v4) < nD) ∧
  ((k0_dev9 v4) < nD) ∧
  ((k0_dev10 v4) < nD)
theorem k0_dev1_lt : ∀ (v4 : BitVec 32) (k0_hw1 : k0_chk1 v4), (k0_dev1 v4) < nD := fun v4 k0_hw1 => k0_hw1.1
theorem k0_dev3_lt : ∀ (v4 : BitVec 32) (k0_hw1 : k0_chk1 v4), (k0_dev3 v4) < nD := fun v4 k0_hw1 => k0_hw1.2.1
theorem k0_dev4_lt : ∀ (v4 : BitVec 32) (k0_hw1 : k0_chk1 v4), (k0_dev4 v4) < nD := fun v4 k0_hw1 => k0_hw1.2.2.1
theorem k0_dev5_lt : ∀ (v4 : BitVec 32) (k0_hw1 : k0_chk1 v4), (k0_dev5 v4) < nD := fun v4 k0_hw1 => k0_hw1.2.2.2.1
theorem k0_dev6_lt : ∀ (v4 : BitVec 32) (k0_hw1 : k0_chk1 v4), (k0_dev6 v4) < nD := fun v4 k0_hw1 => k0_hw1.2.2.2.2.1
theorem k0_dev7_lt : ∀ (v4 : BitVec 32) (k0_hw1 : k0_chk1 v4), (k0_dev7 v4) < nD := fun v4 k0_hw1 => k0_hw1.2.2.2.2.2.1
theorem k0_dev8_lt : ∀ (v4 : BitVec 32) (k0_hw1 : k0_chk1 v4), (k0_dev8 v4) < nD := fun v4 k0_hw1 => k0_hw1.2.2.2.2.2.2.1
theorem k0_dev9_lt : ∀ (v4 : BitVec 32) (k0_hw1 : k0_chk1 v4), (k0_dev9 v4) < nD := fun v4 k0_hw1 => k0_hw1.2.2.2.2.2.2.2.1
theorem k0_dev10_lt : ∀ (v4 : BitVec 32) (k0_hw1 : k0_chk1 v4), (k0_dev10 v4) < nD := fun v4 k0_hw1 => k0_hw1.2.2.2.2.2.2.2.2

abbrev stage0_0 : Fin 1 → Memref sig .tc .smem S4 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S4x2048x1024 : Shape := ⟨3, ![4, 2048, 1024]⟩
abbrev S4 : Shape := ⟨1, ![4]⟩
abbrev S_ : Shape := ⟨0, ![]⟩
abbrev S4x1 : Shape := ⟨2, ![4, 1]⟩

abbrev nBuf : Space → Nat
  | .hbm => 15
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4, .i32⟩
  | .hbm, ⟨2, _⟩ => ⟨S4, .i32⟩
  | .hbm, ⟨3, _⟩ => ⟨S4, .i32⟩
  | .hbm, ⟨4, _⟩ => ⟨S4, .i32⟩
  | .hbm, ⟨5, _⟩ => ⟨S_, .i32⟩
  | .hbm, ⟨6, _⟩ => ⟨S4, .i32⟩
  | .hbm, ⟨7, _⟩ => ⟨S4, .i1⟩
  | .hbm, ⟨8, _⟩ => ⟨S_, .i32⟩
  | .hbm, ⟨9, _⟩ => ⟨S4, .i32⟩
  | .hbm, ⟨10, _⟩ => ⟨S4, .i32⟩
  | .hbm, ⟨11, _⟩ => ⟨S4, .i32⟩
  | .hbm, ⟨12, _⟩ => ⟨S4x1, .i32⟩
  | .hbm, ⟨13, _⟩ => ⟨S4x2048x1024, .f32⟩
  | .hbm, ⟨14, _⟩ => ⟨S4x2048x1024, .bf16⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1_0 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]
-- ==== Proof.Chunks.lean ====
/-
The kernel cut in steps.

The kernel moves its block of `x` in eight chunks of 256 rows, the k-th through the memrefs `xC k` (rows of `x`), `slotC (slotOf k)`
(a slot of the float32 buffer), `packC k` (rows of the bfloat16 buffer) and `outC k` (rows of the result on the device the
chunk is sent to). Each of the six kinds of step is one definition over the chunk's number, and the printed kernel is these
steps in sequence (`body_eq`).
-/
module

public import proofs.«01_k».proof.Proof.Gen.KernelIdeal
public import proofs.«01_k».proof.Proof.Gen.KernelIdeal.Skeleton
public import proofs.«01_k».proof.Proof.Gen.KernelIdeal.Launch

@[expose] public section

noncomputable section

namespace Cert.Permute

open Cert.KernelIdeal Cert.KernelIdeal.Gen
open Idealize.ShloMosaic Idealize.ShloMosaic.TcCoe
open Idealize.SL.Sem

variable {F : FTy → Type} [FloatOps F]

/-! ## The buffers -/

/-- The table, staged in scalar memory. -/
abbrev tabM : Memref sig .tc .smem S4 .i32 := Memref.whole cc0_stg0_0
/-- The device's block of `x`. -/
abbrev xM : Memref sig .tc .hbm S1x2048x1024 .f32 := Memref.whole main_arg0
/-- The device's result. -/
abbrev outM : Memref sig .tc .hbm S1x2048x1024 .bf16 := Memref.whole main_v1
/-- The two float32 slots. -/
abbrev slotM : Memref sig .tc .vmem S2x256x1024 .f32 := Memref.whole cc0_scratch0
/-- The bfloat16 buffer. -/
abbrev packM : Memref sig .tc .vmem S2048x1024 .bf16 := Memref.whole cc0_scratch1

/-! ## The rectangles of a chunk -/

/-- Chunk `k` lies inside a block, -/
theorem inb_rows3 (k : Fin 8) : ∀ a, (![0, 256 * k.val, 0] : Fin 3 → Nat) a + S1x256x1024.size a ≤ S1x2048x1024.size a := by
  revert k; decide
/-- and inside the bfloat16 buffer. -/
theorem inb_rows2 (k : Fin 8) : ∀ a, (![256 * k.val, 0] : Fin 2 → Nat) a + S256x1024.size a ≤ S2048x1024.size a := by
  revert k; decide
/-- A slot lies inside the two. -/
theorem inb_slot (s : Fin 2) : ∀ a, (![s.val, 0, 0] : Fin 3 → Nat) a + S1x256x1024.size a ≤ S2x256x1024.size a := by
  revert s; decide
/-- There are two load semaphores, -/
theorem inb_sem2 (s : Fin 2) : ∀ a, (![s.val] : Fin 1 → Nat) a + S1.size a ≤ S2.size a := by revert s; decide
/-- and eight of the other two kinds. -/
theorem inb_sem8 (k : Fin 8) : ∀ a, (![k.val] : Fin 1 → Nat) a + S1.size a ≤ S8.size a := by revert k; decide

/-- Rows `256 k … 256 k + 255` of a device's block of `x`, or of its result. -/
abbrev rows3 (k : Fin 8) : Rect S1x2048x1024 := Rect.unit (s := S1x2048x1024) ![0, 256 * k.val, 0] S1x256x1024.size (inb_rows3 k)
/-- The same rows of the bfloat16 buffer. -/
abbrev rows2 (k : Fin 8) : Rect S2048x1024 := Rect.unit (s := S2048x1024) ![256 * k.val, 0] S256x1024.size (inb_rows2 k)
/-- A slot of the float32 buffer, -/
abbrev slotR (s : Fin 2) : Rect S2x256x1024 := Rect.unit (s := S2x256x1024) ![s.val, 0, 0] S1x256x1024.size (inb_slot s)
/-- and the one chunk `k` is loaded to. -/
abbrev slotOf (k : Fin 8) : Fin 2 := ⟨k.val % 2, Nat.mod_lt _ (by decide)⟩

/-- Chunk `k` of `x`, -/
abbrev xC (k : Fin 8) : Memref sig .tc .hbm S256x1024 .f32 :=
  (xM.slice (rows3 k) (fun _ => rfl)).squeeze S256x1024 Facts₀.squeezes_S1x256x1024_S256x1024
/-- of the result, -/
abbrev outC (k : Fin 8) : Memref sig .tc .hbm S256x1024 .bf16 :=
  (outM.slice (rows3 k) (fun _ => rfl)).squeeze S256x1024 Facts₀.squeezes_S1x256x1024_S256x1024
/-- slot `s`, -/
abbrev slotC (s : Fin 2) : Memref sig .tc .vmem S256x1024 .f32 :=
  (slotM.slice (slotR s) (fun _ => rfl)).squeeze S256x1024 Facts₀.squeezes_S1x256x1024_S256x1024
/-- and chunk `k` of the bfloat16 buffer. -/
abbrev packC (k : Fin 8) : Memref sig .tc .vmem S256x1024 .bf16 := packM.slice (rows2 k) (fun _ => rfl)

/-- The load semaphore of slot `s`, -/
abbrev loadS (s : Fin 2) : DmaSem sig :=
  ((cc0_scratch2.slice (Rect.unit (s := S2) ![s.val] S1.size (inb_sem2 s))).squeeze S_ Facts₀.squeezes_S1_S_).sem
/-- the send semaphore of chunk `k`, -/
abbrev sendS (k : Fin 8) : DmaSem sig :=
  ((cc0_scratch3.slice (Rect.unit (s := S8) ![k.val] S1.size (inb_sem8 k))).squeeze S_ Facts₀.squeezes_S1_S_).sem
/-- its receive semaphore, -/
abbrev recvS (k : Fin 8) : DmaSem sig :=
  ((cc0_scratch4.slice (Rect.unit (s := S8) ![k.val] S1.size (inb_sem8 k))).squeeze S_ Facts₀.squeezes_S1_S_).sem
/-- and the barrier semaphore. -/
abbrev barS : Sem sig := (SemArray.scalar (sig.barrier 0 rfl) : Sems sig S_).sem

/-- The rows of a chunk fill whole packed rows of the bfloat16 buffer, -/
theorem packed_rows2 (k : Fin 8) : (rows2 k).PackedRows (EltTy.packing .bf16) := by revert k; decide
/-- whole words of it, -/
theorem words_rows2 (k : Fin 8) : (rows2 k).WholeWords (EltTy.packing .bf16) := by revert k; decide
/-- and whole words of the result. -/
theorem words_rows3 (k : Fin 8) : (rows3 k).WholeWords (EltTy.packing .bf16) := by revert k; decide

/-- So a chunk of the bfloat16 buffer is made of whole words, -/
theorem wordExact_packC (k : Fin 8) : (packC k).view.WordExact := (Memref.isWhole_whole cc0_scratch1).wordExact_slice rfl _ (words_rows2 k)
/-- and so is a chunk of the result. -/
theorem wordExact_outC (k : Fin 8) : (outC k).view.WordExact :=
  ((Memref.isWhole_whole main_v1).wordExact_slice rfl _ (words_rows3 k)).reshape _ _

/-! ## The steps -/

/-- A program of the kernel's core. -/
abbrev Step (F : FTy → Type) (α : Type) : Type 1 := Prog (TpuEff nD τ sig (Elt F) Λ₀ .tc) α

/-- Start the load of chunk `k` to its slot. -/
def loadStart (k : Fin 8) : Step F PUnit :=
  Prog.lift (.enqueueDma (xC k) (.here (slotC (slotOf k))) (.dma (loadS (slotOf k))) ((View.wordExact_bits rfl).reshape _ _) ((View.wordExact_bits rfl).reshape _ _) ⟨Or.inl rfl, trivial⟩)
/-- Wait for it. -/
def loadWait (k : Fin 8) : Step F PUnit :=
  Prog.lift (.waitDma2 (loadS (slotOf k)) (xC k) (slotC (slotOf k)) ((View.wordExact_bits rfl).reshape _ _) ((View.wordExact_bits rfl).reshape _ _))
/-- Round the slot to bfloat16 into rows `k` of the bfloat16 buffer. -/
def convert (k : Fin 8) : Step F PUnit := do
  let v : Vec F S1x256x1024 .f32 ← Prog.lift (.load slotM (slotR (slotOf k)).toLoadRect (View.loadsAt_vmem Facts₀.h_S1x256x1024))
  let _w : Vec F S256x1024 .bf16 ← Prog.lift (.load packM (rows2 k).toLoadRect (View.loadsAt_vmem Facts₀.h_S256x1024))
  Prog.lift (.store packM (rows2 k) (k0_pay1 v) Finset.univ
    (View.stores_vmem Facts₀.h_S256x1024 ((Memref.isWhole_whole cc0_scratch1).storeExact_slice rfl _ (packed_rows2 k)) (fun _ => rfl)) (.inl rfl))
/-- Start the remote copy of chunk `k` to device `n`. -/
def sendStart (n : Dev nD) (k : Fin 8) : Step F PUnit :=
  Prog.lift (.enqueueDma (packC k) (.remote (Dev.tc n) (outC k) (.dma (sendS k))) (.dma (recvS k)) (wordExact_packC k) (wordExact_outC k) ⟨⟨rfl, Or.inl rfl⟩, trivial⟩)
/-- Wait until chunk `k` has left. -/
def sendWait (k : Fin 8) : Step F PUnit :=
  Prog.lift (.waitDma2 (sendS k) (outC k) (packC k) (wordExact_outC k) (wordExact_packC k))
/-- Wait until the chunk `k` another device sends here has come. -/
def recvWait (k : Fin 8) : Step F PUnit :=
  Prog.lift (.waitDma2 (recvS k) (packC k) (outC k) (wordExact_packC k) (wordExact_outC k))

/-- Chunk number `k`. -/
abbrev ck (k : ℕ) : Fin 8 := ⟨k % 8, Nat.mod_lt _ (by decide)⟩

/-- `n` steps in sequence, from number `lo` on. -/
def loop (f : ℕ → Step F PUnit) : ℕ → ℕ → Step F PUnit
  | _, 0 => pure ⟨⟩
  | lo, n + 1 => do f lo; loop f (lo + 1) n

/-- The next chunk's load started, chunk `k` waited for and rounded. -/
def fetch (k : ℕ) : Step F PUnit := do
  loadStart (ck (k + 1))
  loadWait (ck k)
  convert (ck k)

/-- What the kernel does for each chunk but the first and the last. -/
def middle (n : Dev nD) (k : ℕ) : Step F PUnit := do
  fetch k
  sendStart n (ck k)

/-- The device the table names as the destination: the word read, as the kernel computes the number from it. -/
abbrev destOf (v : BitVec 32) (hw : k0_chk1 v) : Dev nD := ⟨k0_dev1 v, k0_dev1_lt v hw⟩

/-- The kernel's entry: the table read — its own entry, then all four to find its source —, both ends signalled. -/
def entry : Step F (Σ' v : Elt F .i32, k0_chk1 v) := do
  let d : Dev nD ← Prog.lift .deviceId
  let v : Elt F .i32 ← smemLoad tabM (Rect.unit (s := S4) (k0_off1 d) S1.size (Facts₀.k0_off1_inb d)) Facts₀.numel1_S1 rfl
  have hw : k0_chk1 v := (← Prog.lift (TpuEff.assume (k0_chk1 v) (k0_chk1.dec v))).down
  let w0 : Elt F .i32 ← smemLoad tabM (Rect.unit (s := S4) ![0] S1.size Facts₀.inb_S4_S1_0) Facts₀.numel1_S1 rfl
  let w1 : Elt F .i32 ← smemLoad tabM (Rect.unit (s := S4) ![1] S1.size Facts₀.inb_S4_S1_1) Facts₀.numel1_S1 rfl
  let w2 : Elt F .i32 ← smemLoad tabM (Rect.unit (s := S4) ![2] S1.size Facts₀.inb_S4_S1_2) Facts₀.numel1_S1 rfl
  let w3 : Elt F .i32 ← smemLoad tabM (Rect.unit (s := S4) ![3] S1.size Facts₀.inb_S4_S1_3) Facts₀.numel1_S1 rfl
  have hs : k0_chk2 d w0 w1 w2 w3 := (← Prog.lift (TpuEff.assume (k0_chk2 d w0 w1 w2 w3) (k0_chk2.dec d w0 w1 w2 w3))).down
  semSignalWord (destOf v hw) barS 1#32
  semSignalWord (⟨k0_dev2 d w0 w1 w2 w3, k0_dev2_lt d w0 w1 w2 w3 hs⟩ : Dev nD) barS 1#32
  pure ⟨v, hw⟩

/-- The eight chunks, the destination known. -/
def transfer (n : Dev nD) : Step F PUnit := do
  loadStart (ck 0)
  fetch 0
  semWaitWord barS 2#32
  sendStart n (ck 0)
  loop (middle n) 1 6
  loadWait (ck 7)
  convert (ck 7)
  sendStart n (ck 7)
  loop (fun k => sendWait (ck k)) 0 8
  loop (fun k => recvWait (ck k)) 0 8

/-- A printed function at the launch's buffers. -/
abbrev onBuffers {α : Type 1} (f : (a0 : Memref sig .tc .smem S4 .i32) → a0.IsWhole → (a1 : Memref sig .tc .hbm S1x2048x1024 .f32) → a1.IsWhole
    → (a2 : Memref sig .tc .hbm S1x2048x1024 .bf16) → a2.IsWhole → (a3 : Memref sig .tc .vmem S2x256x1024 .f32) → a3.IsWhole
    → (a4 : Memref sig .tc .vmem S2048x1024 .bf16) → a4.IsWhole → DmaSems sig S2 → DmaSems sig S8 → DmaSems sig S8 → α) : α :=
  f tabM (Memref.isWhole_whole _) xM (Memref.isWhole_whole _) outM (Memref.isWhole_whole _) slotM (Memref.isWhole_whole _)
    packM (Memref.isWhole_whole _) cc0_scratch2 cc0_scratch3 cc0_scratch4

set_option maxRecDepth 65536 in
/-- The printed kernel is the steps in sequence. -/
theorem body_eq : onBuffers (cc0_body (F := F)) = (do let r ← entry; transfer (destOf r.1 r.2)) := by
  rw [cc0_body_eq_skeleton]; rfl

end Cert.Permute

end
-- ==== Proof.Values.lean ====
/-
What the buffers hold.

A device whose block of `x` is `X` packs it into the bfloat16 buffer as `packed X`, each element rounded, and the device it
sends to ends with `sent X`, the same elements under the result's shape. The steps of `Chunks.lean` write these a chunk at a
time: a load leaves `loaded X k` in a slot (`load_lands`), rounding the slot leaves the rows of `packed X` (`convert_lands`),
a remote copy the rows of `sent X` (`send_lands`). The chunks are disjoint and cover their buffers.
-/
module

public import proofs.«01_k».proof.Proof.Chunks
public import Idealize.ShloMosaic.Lib.ValueLayout
public import Idealize.ShloMosaic.Lib.Pipeline.ValueKit.Geometry
public import Idealize.ShloMosaic.Lib.Pipeline.Value

@[expose] public section

noncomputable section

namespace Cert.Permute

open Cert.KernelIdeal Cert.KernelIdeal.Gen
open Idealize.ShloMosaic
open Idealize.ShloMosaic.TcCoe Idealize.ShloMosaic.ValueIdx
open Idealize.SL.Sem

variable {F : FTy → Type} [FloatOps F]

/-! ## Contents -/

/-- Row `r` of chunk `k`. -/
abbrev rowOf (k : Fin 8) (r : Fin 256) : Fin 2048 := ⟨256 * k.val + r.val, by omega⟩

/-- A device's block of `x`. -/
abbrev Block (F : FTy → Type) : Type := S1x2048x1024.Idx → Elt F .f32

/-- What a slot holds once chunk `k` of `X` is loaded to it. -/
def loaded (X : Block F) (k : Fin 8) : S2x256x1024.Idx → Elt F .f32 := fun i => X (ix3 0 (rowOf k (i 1)) (i 2))
/-- The block rounded, as the bfloat16 buffer holds it, -/
def packed (X : Block F) : S2048x1024.Idx → Elt F .bf16 :=
  truncf .bf16 (fun i : S2048x1024.Idx => (X (ix3 0 (i 0) (i 1)) : F .f32)) Facts₀.bitsLt_bf16_f32
/-- and as the device it is sent to holds it. -/
def sent (X : Block F) : S1x2048x1024.Idx → Elt F .bf16 := fun i => packed X (ix2 (i 1) (i 2))

/-! ## Where an element of a chunk lies -/

/-- Row `r` of chunk `k` of a block, -/
theorem emb_rows3 (k : Fin 8) (r : Fin 256) (l : Fin 1024) (z : Fin 1) : (rows3 k).emb (ix3 z r l) = ix3 0 (rowOf k r) l := by
  funext a; apply Fin.ext; rw [ValueKit.rect_emb_unit_val]
  match a with
  | ⟨0, _⟩ => show 0 + z.val = 0; omega
  | ⟨1, _⟩ => rfl
  | ⟨2, _⟩ => show 0 + l.val = l.val; omega

/-- of the bfloat16 buffer, -/
theorem emb_rows2 (k : Fin 8) (r : Fin 256) (l : Fin 1024) : (rows2 k).emb (ix2 r l) = ix2 (rowOf k r) l := by
  funext a; apply Fin.ext; rw [ValueKit.rect_emb_unit_val]
  match a with
  | ⟨0, _⟩ => rfl
  | ⟨1, _⟩ => show 0 + l.val = l.val; omega

/-- and of slot `s`; -/
theorem emb_slotR (s : Fin 2) (r : Fin 256) (l : Fin 1024) (z : Fin 1) : (slotR s).emb (ix3 z r l) = ix3 s r l := by
  funext a; apply Fin.ext; rw [ValueKit.rect_emb_unit_val]
  match a with
  | ⟨0, _⟩ => show s.val + z.val = s.val; omega
  | ⟨1, _⟩ => show 0 + r.val = r.val; omega
  | ⟨2, _⟩ => show 0 + l.val = l.val; omega

/-- the same through the views of the steps: `x`, -/
theorem emb_xC (k : Fin 8) (r : Fin 256) (l : Fin 1024) : (xC k).view.emb (ix2 r l) = ix3 0 (rowOf k r) l := by
  show (rows3 k).emb (Shape.reshapeEquiv _ (ix2 r l)) = _
  rw [reshapeEquiv_ix2_1ab]; exact emb_rows3 k r l _
/-- the result, -/
theorem emb_outC (k : Fin 8) (r : Fin 256) (l : Fin 1024) : (outC k).view.emb (ix2 r l) = ix3 0 (rowOf k r) l := by
  show (rows3 k).emb (Shape.reshapeEquiv _ (ix2 r l)) = _
  rw [reshapeEquiv_ix2_1ab]; exact emb_rows3 k r l _
/-- a slot, -/
theorem emb_slotC (s : Fin 2) (r : Fin 256) (l : Fin 1024) : (slotC s).view.emb (ix2 r l) = ix3 s r l := by
  show (slotR s).emb (Shape.reshapeEquiv _ (ix2 r l)) = _
  rw [reshapeEquiv_ix2_1ab]; exact emb_slotR s r l _
/-- and the bfloat16 buffer. -/
theorem emb_packC (k : Fin 8) (r : Fin 256) (l : Fin 1024) : (packC k).view.emb (ix2 r l) = ix2 (rowOf k r) l :=
  emb_rows2 k r l

/-- A fact about every element of a chunk's memref is one about every row and lane. -/
theorem forall_set {sp : Space} {e : EltTy} (m : Memref sig .tc sp S256x1024 e) {p : m.view.ty.Idx → Prop}
    (h : ∀ (r : Fin 256) (l : Fin 1024), p (m.view.emb (ix2 r l))) : ∀ i ∈ m.view.set, p i := by
  intro i hi
  obtain ⟨y, -, rfl⟩ := Finset.mem_map.mp hi
  rw [eq_ix2 y]; exact h _ _

/-! ## What the steps write -/

omit [FloatOps F] in
/-- A load leaves the chunk in the slot. -/
theorem load_lands (X : Block F) (k : Fin 8) (s : Fin 2) (fd : S2x256x1024.Idx → Elt F .f32) :
    ∀ i ∈ (slotC s).view.set, (slotC s).view.write (Elt F) fd ((xC k).view.read (Elt F) X) Finset.univ i = loaded X k i := by
  refine forall_set (slotC s) fun r l => ?_
  rw [View.write_emb_of_mem _ _ (Finset.mem_univ _)]
  show X ((xC k).view.emb (ix2 r l)) = _
  rw [emb_xC]
  exact (congrArg (loaded X k) (emb_slotC s r l)).symm

/-- The payload of the store: the slot's elements, rounded. -/
theorem pay_apply (v : Vec F S1x256x1024 .f32) (r : Fin 256) (l : Fin 1024) :
    k0_pay1 v (ix2 r l) = FloatOps.truncf .bf16 Facts₀.bitsLt_bf16_f32 (v (ix3 0 r l) : F .f32) := by
  show shapeCast S256x1024 (truncf .bf16 (shapeCast S256x1024 v _) _) _ (ix2 r l) = _
  rw [shapeCast_self]
  show FloatOps.truncf .bf16 _ (v (Shape.reshapeEquiv _ (ix2 r l))) = _
  rw [reshapeEquiv_ix2_1ab]; rfl

/-- Rounding the slot leaves the rounded rows, -/
theorem convert_lands (X : Block F) (k : Fin 8) (s : Fin 2) (fd : S2048x1024.Idx → Elt F .bf16) :
    ∀ i ∈ (packC k).view.set, (packM.access (rows2 k)).write (Elt F) fd
      (k0_pay1 (slotM.view.readAt (Elt F) (slotR s).toLoadRect (loaded X k))) Finset.univ i = packed X i := by
  refine forall_set (packC k) fun r l => ?_
  show (packC k).view.write (Elt F) fd _ Finset.univ ((packC k).view.emb (ix2 r l)) = _
  rw [View.write_emb_of_mem _ _ (Finset.mem_univ _)]
  refine (pay_apply _ r l).trans ?_
  refine Eq.trans ?_ (congrArg (packed X) (emb_packC k r l)).symm
  show FloatOps.truncf .bf16 _ (loaded X k ((slotR s).emb (ix3 0 r l))) = _
  rw [emb_slotR]; rfl

/-- and a remote copy the rows of the result. -/
theorem send_lands (X : Block F) (k : Fin 8) (fd : S1x2048x1024.Idx → Elt F .bf16) :
    ∀ i ∈ (outC k).view.set, (outC k).view.write (Elt F) fd ((packC k).view.read (Elt F) (packed X)) Finset.univ i = sent X i := by
  refine forall_set (outC k) fun r l => ?_
  rw [View.write_emb_of_mem _ _ (Finset.mem_univ _)]
  show packed X ((packC k).view.emb (ix2 r l)) = _
  rw [emb_packC]
  exact (congrArg (sent X) (emb_outC k r l)).symm

/-! ## The chunks of a buffer -/

/-- The elements of a chunk of `x`, -/
theorem set_xC (k : Fin 8) : (xC k).view.set = (rows3 k).set := (View.set_reshape _ _).trans (View.set_slice_whole _ _)
/-- of the result, -/
theorem set_outC (k : Fin 8) : (outC k).view.set = (rows3 k).set := (View.set_reshape _ _).trans (View.set_slice_whole _ _)
/-- of a slot, -/
theorem set_slotC (s : Fin 2) : (slotC s).view.set = (slotR s).set := (View.set_reshape _ _).trans (View.set_slice_whole _ _)
/-- of the bfloat16 buffer. -/
theorem set_packC (k : Fin 8) : (packC k).view.set = (rows2 k).set := View.set_slice_whole _ _

/-- Different chunks of a block share no element, -/
theorem rows3_disjoint (k k' : Fin 8) (h : k ≠ k') : Disjoint (rows3 k).set (rows3 k').set :=
  Rect.unit_disjoint 1 (by have : k.val ≠ k'.val := fun e => h (Fin.ext e); show 256 * k.val + 256 ≤ 256 * k'.val ∨ 256 * k'.val + 256 ≤ 256 * k.val; omega)
/-- nor do those of the bfloat16 buffer, -/
theorem rows2_disjoint (k k' : Fin 8) (h : k ≠ k') : Disjoint (rows2 k).set (rows2 k').set :=
  Rect.unit_disjoint 0 (by have : k.val ≠ k'.val := fun e => h (Fin.ext e); show 256 * k.val + 256 ≤ 256 * k'.val ∨ 256 * k'.val + 256 ≤ 256 * k.val; omega)
/-- nor the slots. -/
theorem slotR_disjoint (s s' : Fin 2) (h : s ≠ s') : Disjoint (slotR s).set (slotR s').set :=
  Rect.unit_disjoint 0 (by have : s.val ≠ s'.val := fun e => h (Fin.ext e); show s.val + 1 ≤ s'.val ∨ s'.val + 1 ≤ s.val; omega)

/-- The chunks cover a block, -/
theorem rows3_cover : Finset.univ.biUnion (fun k => (rows3 k).set) = Finset.univ := by
  ext i
  have h0 : (i 0).val < 1 := (i 0).isLt
  have h1 : (i 1).val < 2048 := (i 1).isLt
  have h2 : (i 2).val < 1024 := (i 2).isLt
  simp only [Finset.mem_biUnion, Finset.mem_univ, true_and, iff_true]
  refine ⟨⟨(i 1).val / 256, by omega⟩, Rect.mem_set_unit.mpr fun a => ?_⟩
  match a with
  | ⟨0, _⟩ => exact ⟨Nat.zero_le _, by show (i 0).val < 0 + 1; omega⟩
  | ⟨1, _⟩ => exact ⟨by show 256 * ((i 1).val / 256) ≤ (i 1).val; omega, by show (i 1).val < 256 * ((i 1).val / 256) + 256; omega⟩
  | ⟨2, _⟩ => exact ⟨Nat.zero_le _, by show (i 2).val < 0 + 1024; omega⟩

/-- and the bfloat16 buffer, -/
theorem rows2_cover : Finset.univ.biUnion (fun k => (rows2 k).set) = Finset.univ := by
  ext i
  have h1 : (i 0).val < 2048 := (i 0).isLt
  have h2 : (i 1).val < 1024 := (i 1).isLt
  simp only [Finset.mem_biUnion, Finset.mem_univ, true_and, iff_true]
  refine ⟨⟨(i 0).val / 256, by omega⟩, Rect.mem_set_unit.mpr fun a => ?_⟩
  match a with
  | ⟨0, _⟩ => exact ⟨by show 256 * ((i 0).val / 256) ≤ (i 0).val; omega, by show (i 0).val < 256 * ((i 0).val / 256) + 256; omega⟩
  | ⟨1, _⟩ => exact ⟨Nat.zero_le _, by show (i 1).val < 0 + 1024; omega⟩

/-- and the slots their buffer. -/
theorem slotR_cover : Finset.univ.biUnion (fun s => (slotR s).set) = Finset.univ := by
  ext i
  have h0 : (i 0).val < 2 := (i 0).isLt
  have h1 : (i 1).val < 256 := (i 1).isLt
  have h2 : (i 2).val < 1024 := (i 2).isLt
  simp only [Finset.mem_biUnion, Finset.mem_univ, true_and, iff_true]
  refine ⟨⟨(i 0).val, h0⟩, Rect.mem_set_unit.mpr fun a => ?_⟩
  match a with
  | ⟨0, _⟩ => exact ⟨le_refl _, Nat.lt_succ_self _⟩
  | ⟨1, _⟩ => exact ⟨Nat.zero_le _, by show (i 1).val < 0 + 256; omega⟩
  | ⟨2, _⟩ => exact ⟨Nat.zero_le _, by show (i 2).val < 0 + 1024; omega⟩

end Cert.Permute

end
-- ==== Proof.Protocol.lean ====
/-
The protocol.

Device `c` sends its block to `π c`, for a permutation `π` of the devices. It signals the barrier semaphore of `π c`, and
that of the device `π.symm c` it will receive from; the second signal lends that device `c`'s result array, chunk by chunk
(`barPay`). Having waited for both of its own signals, `c` holds the result array of `π c` and sends its chunks there: the
k-th copy gives back the rows of the bfloat16 buffer at the k-th send semaphore (`sendPay`) and the rows of the result,
written, at the k-th receive semaphore of `π c` (`recvPay`).

Each of these seventeen semaphores of a device is a cell of the rounds library with one round (`rounds`). What a device owes
at the launch is `owed`; no wait can be circular since the barrier is at level 1 and the receive semaphores are at level 2.
-/
module

public import proofs.«01_k».proof.Proof.Values
public import Idealize.ShloMosaic.Lib.Pipeline.Launch
public import Idealize.ShloMosaic.Lib.Pipeline.Kit
public import Idealize.ShloMosaic.Lib.Transfers
public import Idealize.ShloMosaic.Lib.Ring
public import Idealize.ShloMosaic.Lib.Tactic

@[expose] public section

noncomputable section

namespace Cert.Permute

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra -/

/-- The protocol's own part: the rounds of its cells, and the counters of the local copies. -/
abbrev Own : Type := URounds (GSem nD τ sig) Bool × Counters
/-- The ghost state: the staging protocol, and this one. -/
abbrev UU : Type := UR sig nD τ × Own

local notation "𝕄" => MT nD τ sig Unit (Elt F) ℕ UU ℕ

/-- Where the staging protocol's part of it lies, -/
abbrev EP : Emb (UR sig nD τ) (MT nD τ sig Unit (Elt F) ℕ UU ℕ) := embL
/-- where the part of the rounds, -/
abbrev ER : Emb (URounds (GSem nD τ sig) Bool) (MT nD τ sig Unit (Elt F) ℕ UU ℕ) :=
  (Emb.inl : Emb (URounds (GSem nD τ sig) Bool) Own).trans embR
/-- and of the counters. -/
abbrev EC : UEmb Counters (MT nD τ sig Unit (Elt F) ℕ UU ℕ) := countersEmb

/-! ## The cells -/

/-- A device's seventeen semaphores of the protocol: the barrier, then by chunk the send and the receive semaphores. -/
abbrev Cell : Type := Unit ⊕ (Fin 8 ⊕ Fin 8)
/-- The barrier, -/
abbrev Cell.bar : Cell := .inl ()
/-- the send of chunk `k`, -/
abbrev Cell.send (k : Fin 8) : Cell := .inr (.inl k)
/-- and its receive. -/
abbrev Cell.recv (k : Fin 8) : Cell := .inr (.inr k)

/-- The semaphore of a cell. -/
abbrev csem : Cell → SemLoc sig
  | .inl _ => .reg barS
  | .inr (.inl k) => .dma (sendS k)
  | .inr (.inr k) => .dma (recvS k)

/-- Different cells have different semaphores. -/
theorem csem_injective : Function.Injective csem := by
  have h : ∀ s s' : Cell, csem s = csem s' → s = s' := by decide
  exact fun s s' => h s s'

/-- A device's cell on the whole machine. -/
abbrev kcell (cs : Dev nD × Cell) : GSem nD τ sig := ((cs.1 : Thread nD τ), csem cs.2)

/-- Different pairs of a device and a cell are different there. -/
theorem kcell_injective : Function.Injective kcell := by
  rintro ⟨c, s⟩ ⟨c', s'⟩ h
  have hc : c = c' := congrArg (fun g : GSem nD τ sig => g.1.1) h
  have hs : s = s' := csem_injective (congrArg Prod.snd h)
  rw [hc, hs]

/-- The barrier cell of device `c`, -/
abbrev barCell (c : Dev nD) : GSem nD τ sig := kcell (c, Cell.bar)
/-- its send cells, -/
abbrev sendCell (c : Dev nD) (k : Fin 8) : GSem nD τ sig := kcell (c, Cell.send k)
/-- and its receive cells. -/
abbrev recvCell (c : Dev nD) (k : Fin 8) : GSem nD τ sig := kcell (c, Cell.recv k)

/-- The cell a semaphore is, if it is one. -/
def cellAt : SemLoc sig → Option Cell := Function.partialInv csem
/-- A cell is found again from its semaphore. -/
theorem cellAt_csem (s : Cell) : cellAt (csem s) = some s := Function.partialInv_left csem_injective s

/-- A chunk's credit in bfloat16, -/
abbrev N : ℕ := (packC 0).view.dmaCredit
/-- which is not zero. -/
theorem N_pos : 0 < N := View.dmaCredit_pos _ (by decide)
/-- It is the credit of a chunk of the bfloat16 buffer, -/
theorem credit_packC (k : Fin 8) : (packC k).view.dmaCredit = N := rfl
/-- and of the result. -/
theorem credit_outC (k : Fin 8) : (outC k).view.dmaCredit = N :=
  (show (outC k).view.dmaCredit = (outC 0).view.dmaCredit from rfl).trans (by decide)
/-- A slot's credit in float32, -/
abbrev NL : ℕ := (slotC 0).view.dmaCredit
/-- which is not zero either. -/
theorem NL_pos : 0 < NL := View.dmaCredit_pos _ (by decide)
/-- It is the credit of both slots. -/
theorem credit_slotC (s : Fin 2) : (slotC s).view.dmaCredit = NL := rfl

/-! ## The buffers, by chunks -/

/-- Chunk `k` of `x` on device `c` at contents `f`; -/
abbrev xPts (c : Dev nD) (k : Fin 8) (f : Block F) : sProp 𝕄 := (xC k).view.loc (c : Thread nD τ) ↦[(xC k).view.set]{fullShare} f
/-- of the result; -/
abbrev outPts (c : Dev nD) (k : Fin 8) (f : S1x2048x1024.Idx → Elt F .bf16) : sProp 𝕄 :=
  (outC k).view.loc (c : Thread nD τ) ↦[(outC k).view.set]{fullShare} f
/-- slot `s`; -/
abbrev slotPts (c : Dev nD) (s : Fin 2) (f : S2x256x1024.Idx → Elt F .f32) : sProp 𝕄 :=
  (slotC s).view.loc (c : Thread nD τ) ↦[(slotC s).view.set]{fullShare} f
/-- chunk `k` of the bfloat16 buffer. -/
abbrev packPts (c : Dev nD) (k : Fin 8) (f : S2048x1024.Idx → Elt F .bf16) : sProp 𝕄 :=
  (packC k).view.loc (c : Thread nD τ) ↦[(packC k).view.set]{fullShare} f

/-- Chunk `k` of a result array at any contents, -/
def outFree (c : Dev nD) (k : Fin 8) : sProp 𝕄 := iprop(∃ f, outPts (F := F) c k f)
/-- and of the bfloat16 buffer. -/
def packFree (c : Dev nD) (k : Fin 8) : sProp 𝕄 := iprop(∃ f, packPts (F := F) c k f)

/-! ## The rounds -/

variable (X : Dev nD → Block F) (π : Dev nD ≃ Dev nD)

/-- What the second signal of the barrier of `c` hands over: the result array of its destination. -/
def barPay (c : Dev nD) : sProp 𝕄 := bigSep Finset.univ fun k => outFree (F := F) (π c) k
/-- What a send hands back: the rounded rows. -/
def sendPay (c : Dev nD) (k : Fin 8) : sProp 𝕄 := packPts c k (packed (X c))
/-- What a landing hands over: the rows of the result, holding the source's block. -/
def recvPay (c : Dev nD) (k : Fin 8) : sProp 𝕄 := outPts c k (sent (X (π.symm c)))

/-- The duties of a cell: two on the barrier, one elsewhere, -/
def dutiesOf : Cell → Finset Bool
  | .inl _ => Finset.univ
  | .inr _ => {false}
/-- each of one unit on the barrier, of a chunk elsewhere, -/
def amountOf : Cell → ℕ
  | .inl _ => 1
  | .inr _ => N
/-- so never of nothing, -/
theorem amountOf_pos (s : Cell) : 0 < amountOf s := by rcases s with _ | _; exacts [Nat.one_pos, N_pos]
/-- and with these payloads. -/
def payOf (c : Dev nD) : Cell → Bool → sProp 𝕄
  | .inl _, d => if d then barPay π c else iprop(emp)
  | .inr (.inl k), _ => sendPay X c k
  | .inr (.inr k), _ => recvPay X π c k

/-- The schedule: every cell has one round. -/
def rounds : Rounds.Schedule (GSem nD τ sig) Bool 𝕄 where
  duties g r := if r = 0 ∧ g.1.2 = .tc then (cellAt g.2).elim ∅ dutiesOf else ∅
  unitless _ := False
  amount g _ _ := (cellAt g.2).elim 1 amountOf
  payload g _ d := (cellAt g.2).elim iprop(emp) fun s => payOf X π g.1.1 s d
  amount_pos g _ _ _ := by
    rcases cellAt g.2 with _ | s
    · exact Nat.one_pos
    · exact amountOf_pos s

instance outFree_storable (c : Dev nD) (k : Fin 8) : BI.Storable (upEmb : UEmb _ 𝕄) (outFree (F := F) c k) := by unfold outFree; infer_instance

instance rounds_payload_storable (g : GSem nD τ sig) (r : ℕ) (d : Bool) :
    BI.Storable (upEmb : UEmb _ 𝕄) ((rounds X π).payload g r d) := by
  show BI.Storable upEmb ((cellAt g.2).elim iprop(emp) fun s => payOf X π g.1.1 s d)
  rcases cellAt g.2 with _ | s
  · show BI.Storable upEmb iprop(emp); infer_instance
  · rcases s with _ | k | k
    · show BI.Storable upEmb (if d then barPay π g.1.1 else iprop(emp))
      unfold barPay; split <;> infer_instance
    · show BI.Storable upEmb (sendPay X g.1.1 k); unfold sendPay; infer_instance
    · show BI.Storable upEmb (recvPay X π g.1.1 k); unfold recvPay; infer_instance

/-- The schedule read at a cell: its duties, -/
theorem duties_cell (c : Dev nD) (s : Cell) : (rounds X π).duties (kcell (c, s)) 0 = dutiesOf s := by
  dsimp only [rounds]; rw [if_pos ⟨rfl, rfl⟩, cellAt_csem]; rfl
/-- none after the first round, -/
theorem duties_later (g : GSem nD τ sig) : ∀ r, 1 ≤ r → (rounds X π).duties g r = ∅ :=
  fun r hr => by dsimp only [rounds]; exact if_neg fun h => by omega
/-- their amounts, -/
theorem amount_cell (c : Dev nD) (s : Cell) (d : Bool) : (rounds X π).amount (kcell (c, s)) 0 d = amountOf s := by
  dsimp only [rounds]; rw [cellAt_csem]; rfl
/-- their payloads, -/
theorem payload_cell (c : Dev nD) (s : Cell) (d : Bool) : (rounds X π).payload (kcell (c, s)) 0 d = payOf X π c s d := by
  dsimp only [rounds]; rw [cellAt_csem]; rfl
/-- and what the one wait takes. -/
theorem expect_cell (c : Dev nD) (s : Cell) : (rounds X π).expect (kcell (c, s)) 0 = (dutiesOf s).card * amountOf s := by
  unfold Schedule.expect Schedule.amountOf
  rw [duties_cell, Finset.sum_congr rfl fun d _ => amount_cell X π c s d, Finset.sum_const, smul_eq_mul]

/-- What a wait for a cell's whole round gives. -/
def gain (c : Dev nD) : Cell → sProp 𝕄
  | .inl _ => barPay π c
  | .inr (.inl k) => sendPay X c k
  | .inr (.inr k) => recvPay X π c k

/-- Waiting for all of a round gains its payload. -/
theorem rest_cell (c : Dev nD) (s : Cell) :
    bigSep ((rounds X π).duties (kcell (c, s)) 0 \ ∅) (fun d => (rounds X π).payload (kcell (c, s)) 0 d) ⊢ gain X π c s := by
  rw [Finset.sdiff_empty, duties_cell]
  refine (Entails.of_eq (bigSep_congr fun d _ => payload_cell X π c s d)).trans ?_
  rcases s with _ | k | k
  · exact bigSep_elim (i := true) (Finset.mem_univ _)
  · exact bigSep_elim (i := false) (Finset.mem_singleton_self _)
  · exact bigSep_elim (i := false) (Finset.mem_singleton_self _)

/-! ## Levels -/

/-- The labels under which a cell is waited for. -/
def L (g : GSem nD τ sig) : Finset Unit := if g.1.2 = .tc then {()} else ∅
/-- The level of a semaphore: the receive cells above the barrier, the barrier above the rest. -/
def lvOf (sm : SemLoc sig) : ℕ := if sm = csem .bar then 1 else if ∃ k, sm = csem (.recv k) then 2 else 0
/-- The level of a cell. -/
def lv (g : GSem nD τ sig) (_ : Unit) : ℕ := lvOf g.2

/-- The barrier is at level one, -/
theorem lvOf_bar : lvOf (csem .bar) = 1 := by decide
/-- a receive cell at two, -/
theorem lvOf_recv (k : Fin 8) : lvOf (csem (.recv k)) = 2 := by revert k; decide
/-- a load at zero. -/
theorem lvOf_load (s : Fin 2) : lvOf (.dma (loadS s)) = 0 := by revert s; decide

/-- Only a TensorCore waits, -/
theorem L_of_ne (g : GSem nD τ sig) (h : g.1.2 ≠ .tc) : L g = ∅ := if_neg h
/-- and under the one label. -/
theorem L_tc (c : Dev nD) (sm : SemLoc sig) : L ((c : Thread nD τ), sm) = {()} := if_pos rfl

/-- Everything owed is to semaphores above level `n`. -/
def OwesAbove (n : ℕ) (O : CellTallies nD τ sig Unit) : Prop := ∀ g u, 0 < O g u → g.1.2 = .tc ∧ n < lv g u

/-- Owing nothing is owing above every level; -/
theorem OwesAbove.zero (n : ℕ) : OwesAbove n 0 := fun g u h => absurd h (lt_irrefl 0)
/-- so is owing two things that both are, -/
theorem OwesAbove.add {n : ℕ} {O O' : CellTallies nD τ sig Unit} (h : OwesAbove n O) (h' : OwesAbove n O') : OwesAbove n (O + O') := by
  intro g u hg
  rw [Pi.add_apply, Finsupp.add_apply] at hg
  rcases Nat.eq_zero_or_pos (O g u) with h0 | h0
  · exact h' g u (by omega)
  · exact h g u h0
/-- one cell of a higher level, -/
theorem OwesAbove.tally {n : ℕ} (c : Dev nD) (s : Cell) (a : ℕ) (h : n < lvOf (csem s)) : OwesAbove n (tallyAt (kcell (c, s)) () a) := by
  intro g u hg
  rw [tallyAt_apply] at hg
  by_cases hh : g = kcell (c, s) ∧ u = ()
  · rw [hh.1]; exact ⟨rfl, h⟩
  · rw [if_neg hh] at hg; exact absurd hg (lt_irrefl 0)
/-- and whatever is above a higher level. -/
theorem OwesAbove.mono {n n' : ℕ} (hn : n ≤ n') {O : CellTallies nD τ sig Unit} (h : OwesAbove n' O) : OwesAbove n O :=
  fun g u hg => ⟨(h g u hg).1, lt_of_le_of_lt hn (h g u hg).2⟩

/-- A device may wait at a semaphore below everything it owes. -/
theorem mayWait (c : Dev nD) (sm : SemLoc sig) (O : CellTallies nD τ sig Unit) (h : OwesAbove (lvOf sm) O) :
    (levAts L lv : sProp 𝕄) ⊢ MayWait (c : Thread nD τ) sm () O :=
  MayOwe.of_cut (L := L) (lev := lv) (lvOf sm) (fun p hp => by rw [Finset.mem_singleton.mp hp, L_tc]; exact Finset.mem_singleton_self _)
    (fun g u hg => by unfold L; rw [if_pos (h g u hg).1]; exact Finset.mem_singleton_self _)
    (fun p hp => by rw [Finset.mem_singleton.mp hp]; exact le_refl _)
    (fun g u hg => (h g u hg).2)

/-! ## What a device owes -/

/-- The receive credits of the last `n` chunks, the first of them outermost, -/
def owedRecv (c : Dev nD) : ℕ → CellTallies nD τ sig Unit
  | 0 => 0
  | n + 1 => owedRecv c n + tallyAt (recvCell (π c) (ck (7 - n))) () N
/-- and at the launch a unit of either barrier besides. -/
def owedBar (c : Dev nD) : CellTallies nD τ sig Unit := owedRecv π c 8 + tallyAt (barCell (π.symm c)) () 1
/-- What a device owes at the launch: two signals and eight landings. -/
def owed (c : Dev nD) : CellTallies nD τ sig Unit := owedBar π c + tallyAt (barCell (π c)) () 1

/-- The landings are owed above the barrier, -/
theorem owedRecv_above (c : Dev nD) (n : ℕ) : OwesAbove 1 (owedRecv π c n) := by
  induction n with
  | zero => exact .zero 1
  | succ n ih => exact ih.add (.tally _ _ _ (by rw [lvOf_recv]; decide))

/-- and everything above the loads. -/
theorem owed_above (c : Dev nD) : OwesAbove 0 (owed π c) :=
  (((owedRecv_above π c 8).mono (Nat.zero_le _)).add (.tally _ _ _ (by decide))).add (.tally _ _ _ (by decide))

/-- Chunk `n`'s credit is the one owed outermost once the first `n` are sent. -/
theorem owedRecv_peel (c : Dev nD) {n : ℕ} (hn : n < 8) :
    owedRecv π c (8 - n) = owedRecv π c (8 - (n + 1)) + tallyAt (recvCell (π c) (ck n)) () N := by
  obtain ⟨j, hj⟩ : ∃ j, 8 - n = j + 1 := ⟨7 - n, by omega⟩
  have e : 8 - (n + 1) = j := by omega
  have e' : 7 - j = n := by omega
  rw [hj, e]; show _ + tallyAt (recvCell (π c) (ck (7 - j))) () N = _; rw [e']

end Cert.Permute

end
-- ==== Proof.Steps.lean ====
/-
The steps, one at a time: what each needs and what it leaves.

`run c p Q` says that on device `c` the step `p` runs to the end and leaves `Q`. Each of the steps of `Chunks.lean` has here
its triple over the chunk's number; `andThen` puts them in sequence.
-/
module

public import proofs.«01_k».proof.Proof.Protocol

@[expose] public section

noncomputable section

namespace Cert.Permute

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- No loop needs a measure. -/
abbrev 𝒱₀ : Variants := Variants.none

/-- On device `c`, `p` runs to the end and leaves `Q`. -/
abbrev run {α : Type} (c : Dev nD) (p : Step F α) (Q : α → sProp 𝕄) : sProp 𝕄 :=
  wp frame (wpE (defs₀ (F := F)) 𝒱₀ (c : Thread nD τ) none) Set.univ p Q

/-- A step, and what follows it. -/
theorem andThen {α β : Type} {c : Dev nD} {p : Step F α} {f : α → Step F β} {P : sProp 𝕄} {R : α → sProp 𝕄} {Q : β → sProp 𝕄}
    (h : P ⊢ run c p R) : P ⊢ iprop((∀ v, R v -∗ run c (f v) Q) -∗ run c (p >>= f) Q) := by
  refine h.trans ?_
  show run c p R ⊢ iprop((∀ v, R v -∗ run c (f v) Q) -∗ run c (p >>= f) Q)
  unfold run; rw [wp_bind]
  exact wp_wand _ _ _

/-- The same for a step that returns nothing. -/
theorem thenDo {β : Type} {c : Dev nD} {p : Step F PUnit} {f : PUnit → Step F β} {P R : sProp 𝕄} {Q : β → sProp 𝕄}
    (h : P ⊢ run c p (fun _ => R)) : P ⊢ iprop((R -∗ run c (f ⟨⟩) Q) -∗ run c (p >>= f) Q) := by
  iintro HP Hk
  iapply (andThen (f := f) (Q := Q) h) $$ HP
  iintro %v HR
  iapply Hk; iexact HR

/-- What a device owes, whatever it has waited for. -/
def owesSome (c : Dev nD) (O : CellTallies nD τ sig Unit) : sProp 𝕄 := iprop(∃ W, owes (c : Thread nD τ) O W)

/-! ## A load -/

/-- A slot of device `c` that nothing is being loaded to. -/
def slotFree (c : Dev nD) (s : Fin 2) : sProp 𝕄 := iprop((∃ f, slotPts (F := F) c s f) ∗ semVal ((c : Thread nD τ), .dma (loadS s)) 0)
/-- A load of chunk `k` under way. -/
def loading (c : Dev nD) (k : Fin 8) (B : Block F) : sProp 𝕄 :=
  Transfers.Flight EC (c : Thread nD τ) (.dma (loadS (slotOf k))) () NL iprop(slotPts c (slotOf k) (loaded B k) ∗ xPts c k B)
/-- The slot it has arrived in. -/
def slotHas (c : Dev nD) (k : Fin 8) (B : Block F) : sProp 𝕄 :=
  iprop(slotPts c (slotOf k) (loaded B k) ∗ semVal ((c : Thread nD τ), .dma (loadS (slotOf k))) 0)

/-- Starting the load of a chunk takes the chunk and its slot. -/
theorem loadStart_run (c : Dev nD) (k : Fin 8) (B : Block F) :
    iprop(xPts c k B ∗ slotFree c (slotOf k)) ⊢ run c (loadStart k) (fun _ => loading c k B) := by
  unfold slotFree loadStart Prog.lift
  iintro ⟨Hx, ⟨%f, Hs⟩, Hv⟩
  have hw : ((slotC (slotOf k)).view.loc (c : Thread nD τ) ↦[(slotC (slotOf k)).view.set]{fullShare}
      ((slotC (slotOf k)).view.write (Elt F) f ((xC k).view.read (Elt F) B) Finset.univ) : sProp 𝕄) = slotPts c (slotOf k) (loaded B k) :=
    pointsTo_congr (load_lands B k (slotOf k) f)
  iapply (Transfers.wp_dmaLocal EC 𝒱₀ (c : Thread nD τ) none (dst := slotC (slotOf k)) (src := xC k) (via := ReadAs.same) (fs := B) (fd := f)
    () NL rfl NL_pos (Finset.Subset.refl _)) $$ [Hx Hs Hv]
  · isplitl [Hx]; · iexact Hx
    isplitl [Hs]; · iexact Hs
    iexact Hv
  iintro HF
  rw [wp_ret]; imodintro
  unfold loading; rw [← hw]
  iexact HF

/-- Waiting for it gives both back, the slot holding the chunk. -/
theorem loadWait_run (c : Dev nD) (k : Fin 8) (B : Block F) (O : CellTallies nD τ sig Unit) (hO : OwesAbove 0 O) :
    iprop(levAts L lv ∗ loading c k B ∗ owesSome c O) ⊢ run c (loadWait k) (fun _ => iprop(slotHas c k B ∗ xPts c k B ∗ owesSome c O)) := by
  unfold loading loadWait Prog.lift owesSome
  iintro ⟨#Hlev, HF, ⟨%W, HO⟩⟩
  iapply (Transfers.wp_waitLocalO EC 𝒱₀ (c : Thread nD τ) none (sem := loadS (slotOf k)) (srcw := xC k) (dstw := slotC (slotOf k)) () (credit_slotC (slotOf k))) $$ [HF HO]
  · isplitl [HF]; · iexact HF
    isplitl [HO]; · iexact HO
    iapply (mayWait c _ O (by rw [lvOf_load]; exact hO)); iexact Hlev
  iintro ⟨⟨Hs, Hx⟩, Hv, HO⟩
  rw [wp_ret]; imodintro
  unfold slotHas
  isplitl [Hs Hv]
  · isplitl [Hs] <;> iassumption
  isplitl [Hx]; · iexact Hx
  iexists _; iexact HO

/-- A loaded slot may be used again. -/
theorem slotHas_free (c : Dev nD) (k : Fin 8) (B : Block F) : slotHas c k B ⊢ slotFree c (slotOf k) := by
  unfold slotHas slotFree
  iintro ⟨Hs, Hv⟩
  isplitl [Hs]; · iexists _; iexact Hs
  iexact Hv

/-! ## The rounding -/

/-- Rounding a slot leaves the rounded rows in the bfloat16 buffer. -/
theorem convert_run (c : Dev nD) (k : Fin 8) (B : Block F) :
    iprop(slotHas c k B ∗ packFree c k) ⊢ run c (convert k) (fun _ => iprop(slotFree c (slotOf k) ∗ packPts c k (packed B))) := by
  unfold packFree convert Prog.lift
  simp only [Prog.bind_op, Prog.bind_ret]
  refine (sep_mono_left (show slotHas c k B ⊢ iprop(slotPts c (slotOf k) (loaded B k) ∗ semVal ((c : Thread nD τ), .dma (loadS (slotOf k))) 0) from .rfl)).trans ?_
  iintro ⟨⟨Hs, Hv⟩, ⟨%f, Hp⟩⟩
  have hs : slotM.view.setOn (slotR (slotOf k)).toLoadRect.set ⊆ (slotC (slotOf k)).view.set :=
    ((View.set_slice slotM.view (slotR (slotOf k))).symm.trans (View.set_reshape _ _).symm).subset
  iapply (wp_load 𝒱₀ (c : Thread nD τ) none Set.univ (m := slotM) (f := loaded B k) hs) $$ Hs; iintro Hs
  iapply (wp_load 𝒱₀ (c : Thread nD τ) none Set.univ (m := packM) (f := f) (S := (packC k).view.set)
    (View.set_slice packM.view (rows2 k)).symm.subset) $$ Hp; iintro Hp
  iapply (wp_store 𝒱₀ (c : Thread nD τ) none Set.univ (m := packM) (r := rows2 k) (Mk := Finset.univ) (f := f) (S := (packC k).view.set) (by
    rw [View.setOn_univ])) $$ Hp; iintro Hp
  rw [wp_ret]; imodintro
  isplitl [Hs Hv]
  · unfold slotFree
    isplitl [Hs]; · iexists _; iexact Hs
    iexact Hv
  · have hw : ((packC k).view.loc (c : Thread nD τ) ↦[(packC k).view.set]{fullShare} ((packM.access (rows2 k)).write (Elt F) f
        (k0_pay1 (slotM.view.readAt (Elt F) (slotR (slotOf k)).toLoadRect (loaded B k))) Finset.univ) : sProp 𝕄) = packPts c k (packed B) :=
      pointsTo_congr (convert_lands B k (slotOf k) f)
    rw [← hw]; iexact Hp

/-! ## The protocol's cells -/

variable (X : Dev nD → Block F) (π : Dev nD ≃ Dev nD) (K : Dev nD × Cell → ℕ)

/-- The cells' invariants, that all are at round 0 at least, and the levels. -/
def env : sProp 𝕄 :=
  iprop(((bigSep Finset.univ fun cs : Dev nD × Cell => cellInv ER (rounds X π) (K cs) (kcell cs))
    ∗ bigSep Finset.univ fun cs : Dev nD × Cell => reached ER (kcell cs) 0) ∗ levAts L lv)

instance env_persistent : BI.Persistent (env X π K) := by unfold env; infer_instance

/-- From what all devices share: a cell's invariant, -/
theorem env_inv (cs : Dev nD × Cell) : env X π K ⊢ cellInv ER (rounds X π) (K cs) (kcell cs) := by
  unfold env; exact (sep_elim_left.trans sep_elim_left).trans (bigSep_elim (Finset.mem_univ cs))
/-- that its round is reached, -/
theorem env_reached (cs : Dev nD × Cell) : env X π K ⊢ reached ER (kcell cs) 0 := by
  unfold env; exact (sep_elim_left.trans sep_elim_right).trans (bigSep_elim (Finset.mem_univ cs))
/-- and the levels. -/
theorem env_lev : env X π K ⊢ levAts L lv := by unfold env; exact sep_elim_right

/-- A wait for the whole of a cell's round: its payload, and the semaphore, at zero, is the device's own again. -/
theorem cell_wait (c : Dev nD) (s : Cell) {w : TpuEff nD τ sig (Elt F) Λ₀ .tc PUnit} {n : ℕ}
    (hw : ∀ Q : PUnit → sProp 𝕄, wpE (defs₀ (F := F)) 𝒱₀ (c : Thread nD τ) none Set.univ w Q = waitSpec (c : Thread nD τ) Set.univ (csem s) n Q)
    (hn : n = (dutiesOf s).card * amountOf s) (O : CellTallies nD τ sig Unit) (hO : OwesAbove (lvOf (csem s)) O) :
    iprop(env X π K ∗ cred (tallyAt (kcell (c, s)) () n) ∗ atPos ER (kcell (c, s)) 0 ∅ 0 ∗ owesSome c O)
      ⊢ run c (Prog.lift w) (fun _ => iprop(gain X π c s ∗ semVal (kcell (c, s)) 0 ∗ owesSome c O)) := by
  unfold owesSome Prog.lift
  iintro ⟨#He, Hc, Hat, ⟨%W, HO⟩⟩
  iapply (Rounds.wp_wait_rest_token 𝒱₀ ER (rounds X π) (c : Thread nD τ) none (κ := K (c, s)) hw (Set.mem_univ _) () (O := O) (W := W)
      (R := 0) (m := 0) (T := ∅) (by rw [Nat.zero_add, hn, expect_cell])) $$ [Hc HO Hat]
  · isplitr; · iapply (env_inv X π K (c, s)); iexact He
    isplitl [Hc]; · iexact Hc
    isplitl [HO]; · iexact HO
    isplitr; · iapply (mayWait c _ O hO); iapply (env_lev X π K); iexact He
    iexact Hat
  iintro ⟨HO, Hat, -, Hpay⟩
  imod (Rounds.cell_close ER (rounds X π) (Set.mem_univ (K (c, s))) (fun h => h) (R := 0 + 1) (duties_later X π (kcell (c, s)))) $$ [Hat] with Hz
  · isplitr; · iapply (env_inv X π K (c, s)); iexact He
    iexact Hat
  rw [wp_ret]; imodintro
  isplitl [Hpay]; · iapply (rest_cell X π c s); iexact Hpay
  isplitl [Hz]; · iexact Hz
  iexists _; iexact HO

/-- Waiting for the barrier gives the destination's result array, -/
theorem barWait_run (c : Dev nD) (O : CellTallies nD τ sig Unit) (hO : OwesAbove 1 O) :
    iprop(env X π K ∗ cred (tallyAt (barCell c) () 2) ∗ atPos ER (barCell c) 0 ∅ 0 ∗ owesSome c O)
      ⊢ run c (semWaitWord barS 2#32) (fun _ => iprop(barPay π c ∗ semVal (barCell c) 0 ∗ owesSome c O)) :=
  cell_wait X π K c .bar (wpE_semWait_eq 𝒱₀ (c : Thread nD τ) none Set.univ) rfl O (by rw [lvOf_bar]; exact hO)

/-- waiting for a send the rounded rows, -/
theorem sendWait_run (c : Dev nD) (k : Fin 8) :
    iprop(env X π K ∗ cred (tallyAt (sendCell c k) () N) ∗ atPos ER (sendCell c k) 0 ∅ 0 ∗ owesSome c 0)
      ⊢ run c (sendWait k) (fun _ => iprop(sendPay X c k ∗ semVal (sendCell c k) 0 ∗ owesSome c 0)) :=
  cell_wait X π K c (.send k) (n := N) (w := .waitDma2 (sendS k) (outC k) (packC k) (wordExact_outC k) (wordExact_packC k))
    (fun Q => by rw [← credit_packC k]; exact wpE_waitDma2_eq 𝒱₀ (c : Thread nD τ) none Set.univ Q) (Nat.one_mul N).symm 0 (.zero _)

/-- and waiting for a receive the rows of the result. -/
theorem recvWait_run (c : Dev nD) (k : Fin 8) :
    iprop(env X π K ∗ cred (tallyAt (recvCell c k) () N) ∗ atPos ER (recvCell c k) 0 ∅ 0 ∗ owesSome c 0)
      ⊢ run c (recvWait k) (fun _ => iprop(recvPay X π c k ∗ semVal (recvCell c k) 0 ∗ owesSome c 0)) :=
  cell_wait X π K c (.recv k) (n := N) (w := .waitDma2 (recvS k) (packC k) (outC k) (wordExact_packC k) (wordExact_outC k))
    (fun Q => by rw [← credit_outC k]; exact wpE_waitDma2_eq 𝒱₀ (c : Thread nD τ) none Set.univ Q) (Nat.one_mul N).symm 0 (.zero _)

/-- A signal of one of the barrier's two duties. -/
theorem signal_run (c d : Dev nD) (b : Bool) (O : CellTallies nD τ sig Unit) :
    iprop(env X π K ∗ payOf X π d .bar b ∗ dutyTok ER (barCell d) 0 b ∗ owesSome c (O + tallyAt (barCell d) () 1))
      ⊢ run c (semSignalWord d barS 1#32) (fun _ => owesSome c O) := by
  unfold owesSome semSignalWord
  iintro ⟨#He, Hp, Ht, ⟨%W, HO⟩⟩
  iapply (Rounds.wp_signal 𝒱₀ ER (rounds X π) (c : Thread nD τ) none (dst := (d : Thread nD τ)) (κ := K (d, .bar))
      (d := b) (by rw [duties_cell X π d .bar]; exact Finset.mem_univ _) (amount_cell X π d .bar b) () O rfl) $$ [HO Ht Hp]
  · isplitr; · iapply (env_inv X π K (d, .bar)); iexact He
    isplitl [HO]; · iexact HO
    isplitl [Ht]; · iexact Ht
    isplitl [Hp]; · rw [payload_cell X π d .bar]; iexact Hp
    iapply (env_reached X π K (d, .bar)); iexact He
  iintro HO
  rw [wp_ret]; imodintro
  iexists W; iexact HO

/-- The remote copy of a chunk to `n`, the device `π` names. -/
theorem sendStart_run (c n : Dev nD) (hn : n = π c) (k : Fin 8) (O : CellTallies nD τ sig Unit) :
    iprop(env X π K ∗ packPts c k (packed (X c)) ∗ outFree (π c) k ∗ dutyTok ER (sendCell c k) 0 false ∗ dutyTok ER (recvCell (π c) k) 0 false
        ∗ owesSome c (O + tallyAt (recvCell (π c) k) () N))
      ⊢ run c (sendStart n k) (fun _ => iprop(cred (tallyAt (sendCell c k) () N) ∗ owesSome c O)) := by
  subst hn
  unfold owesSome outFree sendStart Prog.lift
  iintro ⟨#He, Hp, ⟨%f, Ho⟩, HtS, HtR, ⟨%W, HO⟩⟩
  iapply (Rounds.wp_send_pointsTo 𝒱₀ ER (rounds X π) (c : Thread nD τ) none (c' := (π c : Thread nD τ)) (src := packC k) (dst := outC k) (sS := csem (.send k)) (sem := csem (.recv k)) (κ₁ := K (c, .send k)) (κ₂ := K (π c, .recv k))
      (r₁ := 0) (r₂ := 0) (d₁ := false) (d₂ := false) (fs := packed (X c)) (fd := f)
      (by rw [duties_cell X π c (.send k)]; exact Finset.mem_singleton_self _) (by rw [duties_cell X π (π c) (.recv k)]; exact Finset.mem_singleton_self _)
      () () N (credit_outC k) (amount_cell X π c (.send k) false) (amount_cell X π (π c) (.recv k) false) O rfl (W := W)
      (by rw [payload_cell X π c (.send k)]; exact BI.Entails.refl _)
      (by
        rw [payload_cell X π (π c) (.recv k)]
        refine Entails.of_eq ((pointsTo_congr (send_lands (X c) k f)).trans ?_)
        show _ = recvPay X π (π c) k
        unfold recvPay; rw [Equiv.symm_apply_apply])) $$ [Hp Ho HO HtS HtR]
  · isplitr; · iapply (env_inv X π K (c, .send k)); iexact He
    isplitr; · iapply (env_inv X π K (π c, .recv k)); iexact He
    isplitl [Hp]; · iexact Hp
    isplitl [Ho]; · iexact Ho
    isplitl [HO]; · iexact HO
    isplitl [HtS]; · iexact HtS
    isplitr; · iapply (env_reached X π K (c, .send k)); iexact He
    isplitl [HtR]; · iexact HtR
    iapply (env_reached X π K (π c, .recv k)); iexact He
  iintro ⟨Hc, HO⟩
  rw [wp_ret]; imodintro
  isplitl [Hc]; · iexact Hc
  iexists W; iexact HO

end Cert.Permute

end
-- ==== Proof.Transfer.lean ====
/-
The eight chunks in sequence.

`todo n Φ` is `Φ` of the chunks from `n` on, `did n Φ` of those before. Before chunk `n` of the middle ones a device is in
state `mid n`: chunk `n` is being loaded, the other slot is free, the chunks before `n` are sent and the rest are to do
(`middle_run`). The two loops of waits move the chunks, one by one, from sent to received (`sendWaits_run`, `recvWaits_run`).
`transfer_run` is the whole.
-/
module

public import proofs.«01_k».proof.Proof.Steps

@[expose] public section

noncomputable section

namespace Cert.Permute

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Chunks to do and chunks done -/

/-- What is held for the chunks from `n` on, -/
def todo (n : ℕ) (Φ : Fin 8 → sProp 𝕄) : sProp 𝕄 := bigSep (Finset.univ.filter fun j => n ≤ j.val) Φ
/-- and for those before. -/
def did (n : ℕ) (Φ : Fin 8 → sProp 𝕄) : sProp 𝕄 := bigSep (Finset.univ.filter fun j => j.val < n) Φ

/-- At the start nothing is done -/
theorem todo_all (Φ : Fin 8 → sProp 𝕄) : todo 0 Φ = bigSep Finset.univ Φ := by
  unfold todo; rw [Finset.filter_true_of_mem fun j _ => Nat.zero_le _]
/-- and at the end everything is -/
theorem did_all (Φ : Fin 8 → sProp 𝕄) : did 8 Φ = bigSep Finset.univ Φ := by
  unfold did; rw [Finset.filter_true_of_mem fun j _ => j.isLt]
/-- (nothing is held for a chunk that is done), -/
theorem did_none (Φ : Fin 8 → sProp 𝕄) : did 0 Φ = iprop(emp) := by
  unfold did; rw [Finset.filter_false_of_mem fun j _ => Nat.not_lt_zero _]; exact BI.bigSep_empty
/-- (nothing is held for a chunk still to do). -/
theorem todo_none (Φ : Fin 8 → sProp 𝕄) : todo 8 Φ = iprop(emp) := by
  unfold todo; rw [Finset.filter_false_of_mem fun j _ => Nat.not_le.mpr j.isLt]; exact BI.bigSep_empty

/-- The next chunk is taken from those to do, -/
theorem todo_take {n : ℕ} (hn : n < 8) (Φ : Fin 8 → sProp 𝕄) : todo n Φ = iprop(Φ (ck n) ∗ todo (n + 1) Φ) := by
  unfold todo
  have hm : n % 8 = n := Nat.mod_eq_of_lt hn
  have e : (Finset.univ.filter fun j : Fin 8 => n ≤ j.val) = insert (ck n) (Finset.univ.filter fun j : Fin 8 => n + 1 ≤ j.val) := by
    ext j; simp only [Finset.mem_filter, Finset.mem_insert, Finset.mem_univ, true_and, Fin.ext_iff]; omega
  rw [e]; exact BI.bigSep_insert (by simp only [Finset.mem_filter, Finset.mem_univ, true_and]; omega)

/-- and put to those done. -/
theorem did_put {n : ℕ} (hn : n < 8) (Φ : Fin 8 → sProp 𝕄) : did (n + 1) Φ = iprop(Φ (ck n) ∗ did n Φ) := by
  unfold did
  have hm : n % 8 = n := Nat.mod_eq_of_lt hn
  have e : (Finset.univ.filter fun j : Fin 8 => j.val < n + 1) = insert (ck n) (Finset.univ.filter fun j : Fin 8 => j.val < n) := by
    ext j; simp only [Finset.mem_filter, Finset.mem_insert, Finset.mem_univ, true_and, Fin.ext_iff]; omega
  rw [e]; exact BI.bigSep_insert (by simp only [Finset.mem_filter, Finset.mem_univ, true_and]; omega)

/-- A loop of steps, by what holds before each. -/
theorem loop_run {c : Dev nD} {f : ℕ → Step F PUnit} (I : ℕ → sProp 𝕄) (n : ℕ) : ∀ lo : ℕ,
    (∀ k, lo ≤ k → k < lo + n → I k ⊢ run c (f k) (fun _ => I (k + 1))) → I lo ⊢ run c (loop f lo n) (fun _ => I (lo + n)) := by
  induction n with
  | zero =>
    intro lo _
    show I lo ⊢ run c (.ret PUnit.unit) (fun _ => I lo)
    exact le_wp_ret _ _ _ PUnit.unit (fun _ => I lo)
  | succ n ih =>
    intro lo h
    show I lo ⊢ run c (f lo >>= fun _ => loop f (lo + 1) n) _
    have e : lo + (n + 1) = lo + 1 + n := by omega
    rw [e]
    iintro HI
    iapply (thenDo (f := fun _ => loop f (lo + 1) n) (h lo le_rfl (by omega))) $$ HI
    iintro HI
    iapply (ih (lo + 1) fun k h1 h2 => h k (by omega) (by omega)) $$ HI

/-! ## One chunk -/

variable (X : Dev nD → Block F) (π : Dev nD ≃ Dev nD) (K : Dev nD × Cell → ℕ) (c : Dev nD)

/-- Chunk `k` of `x` as launched. -/
abbrev xHas (k : Fin 8) : sProp 𝕄 := xPts c k (X c)
/-- The duties a device pays with a chunk. -/
def toks (k : Fin 8) : sProp 𝕄 := iprop(dutyTok ER (sendCell c k) 0 false ∗ dutyTok ER (recvCell (π c) k) 0 false)
/-- The credit of its send, -/
abbrev credS (k : Fin 8) : sProp 𝕄 := cred (tallyAt (sendCell c k) () N)
/-- and of its receive, -/
abbrev credR (k : Fin 8) : sProp 𝕄 := cred (tallyAt (recvCell c k) () N)
/-- the position of its send cell, -/
abbrev atS (k : Fin 8) : sProp 𝕄 := atPos ER (sendCell c k) 0 ∅ 0
/-- and of its receive cell, -/
abbrev atR (k : Fin 8) : sProp 𝕄 := atPos ER (recvCell c k) 0 ∅ 0
/-- its send counter at zero, -/
abbrev zeroS (k : Fin 8) : sProp 𝕄 := semVal (sendCell c k) 0
/-- and its receive counter. -/
abbrev zeroR (k : Fin 8) : sProp 𝕄 := semVal (recvCell c k) 0

/-- One turn of the double buffer: the next load is started, this one awaited and rounded. -/
theorem fetch_run (k : ℕ) (O : CellTallies nD τ sig Unit) (hO : OwesAbove 0 O) :
    iprop(levAts L lv ∗ loading c (ck k) (X c) ∗ xHas X c (ck (k + 1)) ∗ slotFree c (slotOf (ck (k + 1))) ∗ packFree c (ck k) ∗ owesSome c O)
      ⊢ run c (fetch k) (fun _ => iprop(loading c (ck (k + 1)) (X c) ∗ xHas X c (ck k) ∗ slotFree c (slotOf (ck k))
          ∗ packPts c (ck k) (packed (X c)) ∗ owesSome c O)) := by
  unfold fetch
  iintro ⟨#Hlev, HF, Hx, Hs, Hp, HO⟩
  iapply (thenDo (loadStart_run c (ck (k + 1)) (X c))) $$ [Hx Hs]
  · isplitl [Hx] <;> iassumption
  iintro HF'
  iapply (thenDo (loadWait_run c (ck k) (X c) O hO)) $$ [HF HO]
  · isplitr; · iexact Hlev
    isplitl [HF] <;> iassumption
  iintro ⟨Hs, Hx, HO⟩
  iapply (wp_wand _ _ _) $$ [Hs Hp]
  · iapply (convert_run c (ck k) (X c))
    isplitl [Hs] <;> iassumption
  iintro %_ ⟨Hs, Hp⟩
  isplitl [HF']; · iexact HF'
  isplitl [Hx]; · iexact Hx
  isplitl [Hs]; · iexact Hs
  isplitl [Hp] <;> iassumption

/-- The state before chunk `n`, some load and some send already under way. -/
def mid (n : ℕ) : sProp 𝕄 :=
  iprop(loading c (ck n) (X c) ∗ slotFree c (slotOf (ck (n + 1))) ∗ todo (n + 1) (xHas X c) ∗ did n (xHas X c)
    ∗ todo n (packFree c) ∗ todo n (toks π c) ∗ todo n (outFree (π c)) ∗ did n (credS c) ∗ owesSome c (owedRecv π c (8 - n)))

/-- A chunk sent, rounded already. -/
theorem send_run (n : Dev nD) (hn : n = π c) (k : ℕ) (hk : k < 8) :
    iprop(env X π K ∗ packPts c (ck k) (packed (X c)) ∗ todo k (toks π c) ∗ todo k (outFree (π c)) ∗ did k (credS c) ∗ owesSome c (owedRecv π c (8 - k)))
      ⊢ run c (sendStart n (ck k)) (fun _ => iprop(todo (k + 1) (toks π c) ∗ todo (k + 1) (outFree (π c)) ∗ did (k + 1) (credS c)
          ∗ owesSome c (owedRecv π c (8 - (k + 1))))) := by
  rw [todo_take hk, todo_take hk, did_put hk, owedRecv_peel π c hk]
  unfold toks
  iintro ⟨#He, Hp, ⟨⟨HtS, HtR⟩, Hts⟩, ⟨Ho, Hos⟩, Hcs, HO⟩
  iapply (wp_wand _ _ _) $$ [Hp HtS HtR Ho HO]
  · iapply (sendStart_run X π K c n hn (ck k) (owedRecv π c (8 - (k + 1))))
    isplitr; · iexact He
    isplitl [Hp]; · iexact Hp
    isplitl [Ho]; · iexact Ho
    isplitl [HtS]; · iexact HtS
    isplitl [HtR] <;> iassumption
  iintro %_ ⟨Hc, HO⟩
  isplitl [Hts]; · iexact Hts
  isplitl [Hos]; · iexact Hos
  isplitl [Hc Hcs]
  · isplitl [Hc] <;> iassumption
  iexact HO

/-- The slots alternate. -/
theorem slotOf_next (n : ℕ) : slotOf (ck (n + 1 + 1)) = slotOf (ck n) := Fin.ext (by show (n + 1 + 1) % 8 % 2 = n % 8 % 2; omega)

/-- One chunk after the first: a turn of the double buffer and a remote copy. -/
theorem middle_run (n : Dev nD) (hn : n = π c) (k : ℕ) (hk : k < 7) :
    iprop(env X π K ∗ mid X π c k) ⊢ run c (middle n k) (fun _ => iprop(env X π K ∗ mid X π c (k + 1))) := by
  unfold middle mid
  rw [todo_take (n := k + 1) (by omega) (xHas X c), todo_take (n := k) (by omega) (packFree (F := F) c),
    did_put (n := k) (by omega) (xHas X c), slotOf_next]
  iintro ⟨#He, HF, Hs, ⟨Hx, Hxs⟩, Hxd, ⟨Hp, Hps⟩, Hts, Hos, Hcs, HO⟩
  iapply (thenDo (fetch_run X c k (owedRecv π c (8 - k)) ((owedRecv_above π c _).mono (Nat.zero_le _)))) $$ [HF Hs Hx Hp HO]
  · isplitr; · iapply (env_lev X π K); iexact He
    isplitl [HF]; · iexact HF
    isplitl [Hx]; · iexact Hx
    isplitl [Hs]; · iexact Hs
    isplitl [Hp] <;> iassumption
  iintro ⟨HF, Hx, Hs, Hp, HO⟩
  iapply (wp_wand _ _ _) $$ [Hp Hts Hos Hcs HO]
  · iapply (send_run X π K c n hn k (by omega))
    isplitr; · iexact He
    isplitl [Hp]; · iexact Hp
    isplitl [Hts]; · iexact Hts
    isplitl [Hos]; · iexact Hos
    isplitl [Hcs] <;> iassumption
  iintro %_ ⟨Hts, Hos, Hcs, HO⟩
  isplitr; · iexact He
  isplitl [HF]; · iexact HF
  isplitl [Hs]; · iexact Hs
  isplitl [Hxs]; · iexact Hxs
  isplitl [Hx Hxd]
  · isplitl [Hx] <;> iassumption
  isplitl [Hps]; · iexact Hps
  isplitl [Hts]; · iexact Hts
  isplitl [Hos]; · iexact Hos
  isplitl [Hcs] <;> iassumption

/-! ## The waits at the end -/

/-- A loop of waits for one of the two semaphores of every chunk. -/
theorem waits_run {f : Fin 8 → Step F PUnit} {A B C D : Fin 8 → sProp 𝕄}
    (h : ∀ k, iprop(env X π K ∗ A k ∗ B k ∗ owesSome c 0) ⊢ run c (f k) (fun _ => iprop(C k ∗ D k ∗ owesSome c 0))) :
    iprop(env X π K ∗ bigSep Finset.univ A ∗ bigSep Finset.univ B ∗ owesSome c 0)
      ⊢ run c (loop (fun k => f (ck k)) 0 8) (fun _ => iprop(bigSep Finset.univ C ∗ bigSep Finset.univ D ∗ owesSome c 0)) := by
  let I (n : ℕ) : sProp 𝕄 := iprop(env X π K ∗ todo n A ∗ todo n B ∗ did n C ∗ did n D ∗ owesSome c 0)
  have hI := loop_run (c := c) (f := fun k => f (ck k)) I 8 0 (fun k _ hk => by
    show iprop(env X π K ∗ todo k A ∗ todo k B ∗ did k C ∗ did k D ∗ owesSome c 0)
      ⊢ run c (f (ck k)) (fun _ => iprop(env X π K ∗ todo (k + 1) A ∗ todo (k + 1) B ∗ did (k + 1) C ∗ did (k + 1) D ∗ owesSome c 0))
    rw [todo_take (by omega) A, todo_take (by omega) B, did_put (by omega) C, did_put (by omega) D]
    iintro ⟨#He, ⟨HA, HAs⟩, ⟨HB, HBs⟩, HCs, HDs, HO⟩
    iapply (wp_wand _ _ _) $$ [HA HB HO]
    · iapply (h (ck k))
      isplitr; · iexact He
      isplitl [HA]; · iexact HA
      isplitl [HB] <;> iassumption
    iintro %_ ⟨HC, HD, HO⟩
    isplitr; · iexact He
    isplitl [HAs]; · iexact HAs
    isplitl [HBs]; · iexact HBs
    isplitl [HC HCs]
    · isplitl [HC] <;> iassumption
    isplitl [HD HDs]
    · isplitl [HD] <;> iassumption
    iexact HO)
  have h0 : I 0 = iprop(env X π K ∗ bigSep Finset.univ A ∗ bigSep Finset.univ B ∗ emp ∗ emp ∗ owesSome c 0) := by
    show iprop(env X π K ∗ todo 0 A ∗ todo 0 B ∗ did 0 C ∗ did 0 D ∗ owesSome c 0) = _
    rw [todo_all, todo_all, did_none, did_none]
  have h8 : I (0 + 8) = iprop(env X π K ∗ emp ∗ emp ∗ bigSep Finset.univ C ∗ bigSep Finset.univ D ∗ owesSome c 0) := by
    show iprop(env X π K ∗ todo 8 A ∗ todo 8 B ∗ did 8 C ∗ did 8 D ∗ owesSome c 0) = _
    rw [todo_none, todo_none, did_all, did_all]
  rw [h0, h8] at hI
  iintro ⟨#He, HA, HB, HO⟩
  iapply (wp_wand _ _ _) $$ [HA HB HO]
  · iapply hI
    isplitr; · iexact He
    isplitl [HA]; · iexact HA
    isplitl [HB]; · iexact HB
    isplitr; · iempintro
    isplitr; · iempintro
    iexact HO
  iintro %_ ⟨-, -, -, HC, HD, HO⟩
  isplitl [HC]; · iexact HC
  isplitl [HD] <;> iassumption

/-! ## The whole -/

/-- What a device starts the transfer with, -/
def ready : sProp 𝕄 :=
  iprop(bigSep Finset.univ (xHas X c) ∗ bigSep Finset.univ (packFree c) ∗ slotFree c 0 ∗ slotFree c 1 ∗ bigSep Finset.univ (toks π c)
    ∗ (cred (tallyAt (barCell c) () 2) ∗ atPos ER (barCell c) 0 ∅ 0) ∗ bigSep Finset.univ (atS c) ∗ bigSep Finset.univ (credR c)
    ∗ bigSep Finset.univ (atR c) ∗ owesSome c (owedRecv π c 8))
/-- and what it ends with. -/
def finished : sProp 𝕄 :=
  iprop(bigSep Finset.univ (xHas X c) ∗ bigSep Finset.univ (sendPay X c) ∗ slotFree c 0 ∗ slotFree c 1 ∗ bigSep Finset.univ (recvPay X π c)
    ∗ semVal (barCell c) 0 ∗ bigSep Finset.univ (zeroS c) ∗ bigSep Finset.univ (zeroR c) ∗ owesSome c 0)

/-- The first chunk, the barrier waited for before it is sent. -/
theorem first_run (n : Dev nD) (hn : n = π c) {β : Type} (f : Step F β) (Q : β → sProp 𝕄) :
    iprop(env X π K ∗ bigSep Finset.univ (xHas X c) ∗ bigSep Finset.univ (packFree c) ∗ slotFree c 0 ∗ slotFree c 1 ∗ bigSep Finset.univ (toks π c)
        ∗ (cred (tallyAt (barCell c) () 2) ∗ atPos ER (barCell c) 0 ∅ 0) ∗ owesSome c (owedRecv π c 8))
      ⊢ iprop((mid X π c 1 ∗ semVal (barCell c) 0 -∗ run c f Q)
        -∗ run c (loadStart (ck 0) >>= fun _ => fetch 0 >>= fun _ => semWaitWord barS 2#32 >>= fun _ => sendStart n (ck 0) >>= fun _ => f) Q) := by
  rw [← todo_all (xHas X c), ← todo_all (packFree (F := F) c), ← todo_all (toks (F := F) π c), todo_take (n := 0) (by decide) (xHas X c),
    todo_take (n := 0 + 1) (by decide) (xHas X c), todo_take (n := 0) (by decide) (packFree (F := F) c)]
  iintro ⟨#He, ⟨Hx, Hx', Hxs⟩, ⟨Hp, Hps⟩, Hs0, Hs1, Hts, ⟨Hcb, Hab⟩, HO⟩ Hk
  iapply (thenDo (loadStart_run c (ck 0) (X c))) $$ [Hx Hs0]
  · isplitl [Hx]; · iexact Hx
    iexact Hs0
  iintro HF
  iapply (thenDo (fetch_run X c 0 (owedRecv π c 8) ((owedRecv_above π c _).mono (Nat.zero_le _)))) $$ [HF Hx' Hs1 Hp HO]
  · isplitr; · iapply (env_lev X π K); iexact He
    isplitl [HF]; · iexact HF
    isplitl [Hx']; · iexact Hx'
    isplitl [Hs1]; · iexact Hs1
    isplitl [Hp] <;> iassumption
  iintro ⟨HF, Hx, Hs, Hp, HO⟩
  iapply (thenDo (barWait_run X π K c (owedRecv π c 8) (owedRecv_above π c _))) $$ [Hcb Hab HO]
  · isplitr; · iexact He
    isplitl [Hcb]; · iexact Hcb
    isplitl [Hab] <;> iassumption
  iintro ⟨Hos, Hz, HO⟩
  iapply (thenDo (send_run X π K c n hn 0 (by decide))) $$ [Hp Hts Hos HO]
  · isplitr; · iexact He
    isplitl [Hp]; · iexact Hp
    isplitl [Hts]; · iexact Hts
    isplitl [Hos]; · rw [todo_all]; unfold barPay; iexact Hos
    isplitr; · rw [did_none]; iempintro
    iexact HO
  iintro ⟨Hts, Hos, Hcs, HO⟩
  iapply Hk
  isplitr [Hz]
  · unfold mid
    isplitl [HF]; · iexact HF
    isplitl [Hs]; · iexact Hs
    isplitl [Hxs]; · iexact Hxs
    isplitl [Hx]
    · rw [did_put (n := 0) (by decide), did_none]
      isplitl [Hx]; · iexact Hx
      iempintro
    isplitl [Hps]; · iexact Hps
    isplitl [Hts]; · iexact Hts
    isplitl [Hos]; · iexact Hos
    isplitl [Hcs]; · iexact Hcs
    iexact HO
  · iexact Hz

/-- The last chunk: there is none to load after it. -/
theorem last_run (n : Dev nD) (hn : n = π c) {β : Type} (f : Step F β) (Q : β → sProp 𝕄) :
    iprop(env X π K ∗ mid X π c 7)
      ⊢ iprop((bigSep Finset.univ (xHas X c) ∗ slotFree c 0 ∗ slotFree c 1 ∗ bigSep Finset.univ (credS c) ∗ owesSome c 0 -∗ run c f Q)
        -∗ run c (loadWait (ck 7) >>= fun _ => convert (ck 7) >>= fun _ => sendStart n (ck 7) >>= fun _ => f) Q) := by
  unfold mid
  rw [todo_take (n := 7) (by decide) (packFree (F := F) c), ← did_all (xHas X c), did_put (n := 7) (by decide) (xHas X c), ← did_all (credS (F := F) c)]
  iintro ⟨#He, HF, Hs0, -, Hxd, ⟨Hp, -⟩, Hts, Hos, Hcs, HO⟩ Hk
  iapply (thenDo (loadWait_run c (ck 7) (X c) (owedRecv π c (8 - 7)) ((owedRecv_above π c _).mono (Nat.zero_le _)))) $$ [HF HO]
  · isplitr; · iapply (env_lev X π K); iexact He
    isplitl [HF] <;> iassumption
  iintro ⟨Hs, Hx, HO⟩
  iapply (thenDo (convert_run c (ck 7) (X c))) $$ [Hs Hp]
  · isplitl [Hs] <;> iassumption
  iintro ⟨Hs, Hp⟩
  iapply (thenDo (send_run X π K c n hn 7 (by decide))) $$ [Hp Hts Hos Hcs HO]
  · isplitr; · iexact He
    isplitl [Hp]; · iexact Hp
    isplitl [Hts]; · iexact Hts
    isplitl [Hos]; · iexact Hos
    isplitl [Hcs] <;> iassumption
  iintro ⟨-, -, Hcs, HO⟩
  iapply Hk
  isplitl [Hx Hxd]
  · isplitl [Hx] <;> iassumption
  isplitl [Hs0]; · iexact Hs0
  isplitl [Hs]; · iexact Hs
  isplitl [Hcs]; · iexact Hcs
  iexact HO

/-- All eight transfers: the device's rows go out, its source's come in, and every counter is at zero. -/
theorem transfer_run (n : Dev nD) (hn : n = π c) :
    iprop(env X π K ∗ ready X π c) ⊢ run c (transfer n) (fun _ => finished X π c) := by
  unfold transfer ready
  iintro ⟨#He, Hx, Hp, Hs0, Hs1, Hts, Hbar, HaS, HcR, HaR, HO⟩
  iapply (first_run X π K c n hn) $$ [Hx Hp Hs0 Hs1 Hts Hbar HO]
  · isplitr; · iexact He
    isplitl [Hx]; · iexact Hx
    isplitl [Hp]; · iexact Hp
    isplitl [Hs0]; · iexact Hs0
    isplitl [Hs1]; · iexact Hs1
    isplitl [Hts]; · iexact Hts
    isplitl [Hbar] <;> iassumption
  iintro ⟨Hmid, HzB⟩
  iapply (thenDo (loop_run (fun k => iprop(env X π K ∗ mid X π c k)) 6 1 fun k _ hk => middle_run X π K c n hn k (by omega))) $$ [Hmid]
  · isplitr; · iexact He
    iexact Hmid
  iintro ⟨-, Hmid⟩
  iapply (last_run X π K c n hn) $$ [Hmid]
  · isplitr; · iexact He
    iexact Hmid
  iintro ⟨Hx, Hs0, Hs1, HcS, HO⟩
  iapply (thenDo (waits_run X π K c (f := sendWait) (A := credS c) (B := atS c) fun k => sendWait_run X π K c k)) $$ [HcS HaS HO]
  · isplitr; · iexact He
    isplitl [HcS]; · iexact HcS
    isplitl [HaS] <;> iassumption
  iintro ⟨Hp, HzS, HO⟩
  iapply (wp_wand _ _ _) $$ [HcR HaR HO]
  · iapply (waits_run X π K c (f := recvWait) (A := credR c) (B := atR c) fun k => recvWait_run X π K c k)
    isplitr; · iexact He
    isplitl [HcR]; · iexact HcR
    isplitl [HaR] <;> iassumption
  iintro %_ ⟨Ho, HzR, HO⟩
  unfold finished
  isplitl [Hx]; · iexact Hx
  isplitl [Hp]; · iexact Hp
  isplitl [Hs0]; · iexact Hs0
  isplitl [Hs1]; · iexact Hs1
  isplitl [Ho]; · iexact Ho
  isplitl [HzB]; · iexact HzB
  isplitl [HzS]; · iexact HzS
  isplitl [HzR] <;> iassumption

end Cert.Permute

end
-- ==== Proof.Entry.lean ====
/-
The entry: a device reads from the table where it sends to and who sends to it, and signals both.

`Says π T` is what the proof asks of a device's table `T`: its word `j` is `π j`. Then word `c` names device `c`'s
destination `π c` (`dest_eq`), and the search through the four words finds its source `π⁻¹ c` (`source_eq`). The signal
to the destination only counts; the one to the source hands over the device's own result, to be filled (`entry_run`).
-/
module

public import proofs.«01_k».proof.Proof.Transfer

@[expose] public section

noncomputable section

namespace Cert.Permute

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The table's words -/

/-- A table whose word `j` is `π j`. -/
def Says (π : Dev nD ≃ Dev nD) (T : IVec S4 32) : Prop := ∀ j : Fin 4, T (ix1 j) = BitVec.ofNat 32 (π j).val

/-- The one word a load at `o` reads. -/
theorem word_read (T : IVec S4 32) (o : Fin 1 → ℕ) (h : ∀ a, o a + S1.size a ≤ S4.size a) (j : Fin 4) (ho : o 0 = j.val) :
    (tabM.access (Rect.unit (s := S4) o S1.size h)).read (Elt F) T (Shape.Idx.first (Nat.lt_of_lt_of_eq Nat.one_pos Facts₀.numel1_S1.symm)) = T (ix1 j) := by
  refine congrArg T (funext fun a => Fin.ext ?_)
  fin_cases a
  show o 0 + _ = j.val
  rw [ho]; rfl

/-- The table is read at the device's own number. -/
theorem off_eq : ∀ c : Dev nD, k0_off1 c 0 = c.val := by decide
/-- A word that is a device number passes the check, -/
theorem chk_word : ∀ d : Dev nD, k0_chk1 (BitVec.ofNat 32 d.val) := by decide
/-- and names that device. -/
theorem dev_word : ∀ d : Dev nD, k0_dev1 (BitVec.ofNat 32 d.val) = d.val := by decide

/-- So the destination named by a device number is that device. -/
theorem dest_eq (d : Dev nD) (v : BitVec 32) (hv : v = BitVec.ofNat 32 d.val) (h : k0_chk1 v) : destOf v h = d := by
  subst hv; exact Fin.ext (dev_word d)

/-- The search for the device that sends here: the last of the four words that is this device's number. -/
theorem search_eq : ∀ c a0 a1 a2 a3 : Fin 4,
    k0_dev2 c (BitVec.ofNat 32 a0.val) (BitVec.ofNat 32 a1.val) (BitVec.ofNat 32 a2.val) (BitVec.ofNat 32 a3.val)
      = if a3 = c then 3 else if a2 = c then 2 else if a1 = c then 1 else 0 := by decide +kernel

/-- The source found by searching the table for the own number is the inverse permutation. -/
theorem source_eq (π : Dev nD ≃ Dev nD) (c : Dev nD) :
    k0_dev2 c (BitVec.ofNat 32 (π 0).val) (BitVec.ofNat 32 (π 1).val) (BitVec.ofNat 32 (π 2).val) (BitVec.ofNat 32 (π 3).val) = (π.symm c).val := by
  have key : ∀ s : Fin 4, (if (3 : Fin 4) = s then 3 else if (2 : Fin 4) = s then 2 else if (1 : Fin 4) = s then 1 else 0) = s.val := by decide
  rw [search_eq c (π 0) (π 1) (π 2) (π 3), ← key (π.symm c)]
  simp only [Equiv.eq_symm_apply]

/-! ## The steps of the entry -/

variable (X : Dev nD → Block F) (π : Dev nD ≃ Dev nD) (K : Dev nD × Cell → ℕ) (c : Dev nD)

/-- Device `c`'s table, as staged. -/
abbrev tabPts (T : IVec S4 32) : sProp 𝕄 := (tabM.view.loc (c : Thread nD τ)) ↦{fullShare} T

/-- Loading word `j` of a table that says `π` goes on with `π j`. -/
theorem word_run (T : IVec S4 32) (o : Fin 1 → ℕ) (h : ∀ a, o a + S1.size a ≤ S4.size a) (j : Fin 4) (ho : o 0 = j.val) (hT : Says π T)
    {β : Type} (f : Elt F .i32 → Step F β) (Q : β → sProp 𝕄) :
    tabPts c T ⊢ iprop((tabPts c T -∗ run c (f (BitVec.ofNat 32 (π j).val)) Q)
      -∗ run c (smemLoad tabM (Rect.unit (s := S4) o S1.size h) Facts₀.numel1_S1 rfl >>= f) Q) := by
  have hw := word_read (F := F) T o h j ho
  rw [← hT j, ← hw]
  have hload := wp_smemLoadElt (defs := defs₀ (F := F)) 𝒱₀ (c : Thread nD τ) none (Γ := .empty) Set.univ (m := tabM) (r := Rect.unit (s := S4) o S1.size h)
    (hw := View.loads_smem_one rfl Facts₀.numel1_S1) (x := Shape.Idx.first (Facts₀.numel1_S1.symm ▸ Nat.one_pos)) (k := f) (Q := Q)
    (q := fullShare) (f := T) (Finset.subset_univ _)
  exact hload

/-- A check that holds is passed. -/
theorem assume_run {P : Prop} (d : Decidable P) (hP : P) {β : Type} (f : PLift P → Step F β) (Q : β → sProp 𝕄) :
    run c (f ⟨hP⟩) Q ⊢ run c (Prog.lift (TpuEff.assume P d) >>= f) Q := wp_assume _ _ _ _ hP

/-- The entry: device `c` reads its destination, signals both neighbours, lending its result array to the one it receives from, and still owes the eight landings. -/
theorem entry_run (T : IVec S4 32) (hT : Says π T) :
    iprop(env X π K ∗ tabPts c T ∗ dutyTok ER (barCell (π c)) 0 false ∗ dutyTok ER (barCell (π.symm c)) 0 true
        ∗ bigSep Finset.univ (outFree c) ∗ owesSome c (owed π c))
      ⊢ run c (entry (F := F)) (fun r => iprop(⌜destOf r.1 r.2 = π c⌝ ∗ tabPts c T ∗ owesSome c (owedRecv π c 8))) := by
  unfold entry
  iintro ⟨#He, Ht, Htd, Hts, Hout, HO⟩
  simp only [Prog.lift, Prog.bind_op, Prog.bind_ret, wp_deviceId]
  iapply (word_run π c T (k0_off1 c) (Facts₀.k0_off1_inb c) c (off_eq c) hT) $$ Ht
  iintro Ht
  simp only [wp_assume_of _ _ _ _ (d := k0_chk1.dec _) (chk_word (π c))]
  iapply (word_run π c T ![0] Facts₀.inb_S4_S1_0 0 rfl hT) $$ Ht
  iintro Ht
  iapply (word_run π c T ![1] Facts₀.inb_S4_S1_1 1 rfl hT) $$ Ht
  iintro Ht
  iapply (word_run π c T ![2] Facts₀.inb_S4_S1_2 2 rfl hT) $$ Ht
  iintro Ht
  iapply (word_run π c T ![3] Facts₀.inb_S4_S1_3 3 rfl hT) $$ Ht
  iintro Ht
  have hs : k0_chk2 c (BitVec.ofNat 32 (π 0).val) (BitVec.ofNat 32 (π 1).val) (BitVec.ofNat 32 (π 2).val) (BitVec.ofNat 32 (π 3).val) := by
    show _ < nD; rw [source_eq]; exact (π.symm c).isLt
  simp only [wp_assume_of _ _ _ _ (d := k0_chk2.dec _ _ _ _ _) hs]
  have hsrc : (⟨_, k0_dev2_lt c _ _ _ _ hs⟩ : Dev nD) = π.symm c := Fin.ext (source_eq π c)
  rw [hsrc, dest_eq (π c) _ rfl]
  -- the signal to the destination hands nothing over
  iapply (thenDo (signal_run X π K c (π c) false (owedBar π c))) $$ [Htd HO]
  · isplitr; · iexact He
    isplitr; · unfold payOf; iempintro
    isplitl [Htd]; · iexact Htd
    unfold owed; iexact HO
  iintro HO
  -- the one to the source, this device's result
  iapply (thenDo (signal_run X π K c (π.symm c) true (owedRecv π c 8))) $$ [Hts Hout HO]
  · isplitr; · iexact He
    isplitl [Hout]
    · have e : payOf X π (π.symm c) .bar true = bigSep Finset.univ (outFree c) := by
        show barPay π (π.symm c) = _
        unfold barPay; rw [π.apply_symm_apply]
      rw [e]; iexact Hout
    isplitl [Hts]; · iexact Hts
    unfold owedBar; iexact HO
  iintro HO
  rw [Prog.pure_eq_ret]
  iapply (le_wp_ret _ _ _ _ _)
  isplitr; · ipureintro; exact dest_eq (π c) _ rfl _
  isplitl [Ht] <;> iassumption

/-- The whole kernel on device `c`. -/
theorem body_run (T : IVec S4 32) (hT : Says π T) :
    iprop(env X π K ∗ tabPts c T ∗ (dutyTok ER (barCell (π c)) 0 false ∗ dutyTok ER (barCell (π.symm c)) 0 true)
        ∗ bigSep Finset.univ (outFree c) ∗ owesSome c (owed π c) ∗ (owesSome c (owedRecv π c 8) -∗ ready X π c))
      ⊢ run c (onBuffers (cc0_body (F := F))) (fun _ => iprop(tabPts c T ∗ finished X π c)) := by
  rw [body_eq]
  iintro ⟨#He, Ht, ⟨Htd, Hts⟩, Hout, HO, Hr⟩
  iapply (andThen (entry_run X π K c T hT)) $$ [Ht Htd Hts Hout HO]
  · isplitr; · iexact He
    isplitl [Ht]; · iexact Ht
    isplitl [Htd]; · iexact Htd
    isplitl [Hts]; · iexact Hts
    isplitl [Hout] <;> iassumption
  iintro %r ⟨%hd, Ht, HO⟩
  iapply (wp_wand _ _ _) $$ [Hr HO]
  · iapply (transfer_run X π K c _ hd)
    isplitr; · iexact He
    iapply Hr; iexact HO
  iintro %_ Hf
  isplitl [Ht] <;> iassumption

end Cert.Permute

end
-- ==== Proof.Deal.lean ====
/-
What the launch deals each device.

Every cell starts with both duty tokens at its own device (`G`). One global step allocates the invariants of all cells and
hands each token to the device that pays the duty (`pays_around`): a device keeps its send tokens, the token of a receive
semaphore goes to the device that sends there, the two of a barrier semaphore to the two devices that signal it. The units
owed to a device's cells come to it as credit (`creds`).
-/
module

public import proofs.«01_k».proof.Proof.Entry

@[expose] public section

noncomputable section

namespace Cert.Permute

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → Block F) (π : Dev nD ≃ Dev nD)

/-! ## Conjunctions over the cells -/

/-- What is held for every element of a sum is held for the left ones and for the right ones. -/
theorem bigSep_sum {A B : Type} [Fintype A] [Fintype B] (Φ : A ⊕ B → sProp 𝕄) :
    bigSep Finset.univ Φ = iprop((bigSep Finset.univ fun a => Φ (.inl a)) ∗ bigSep Finset.univ fun b => Φ (.inr b)) :=
  BI.bigSep_univ_sum Φ

/-- What is held for every cell: the barrier, the sends, the receives. -/
theorem bigSep_cell (Φ : Cell → sProp 𝕄) :
    bigSep Finset.univ Φ = iprop(Φ .bar ∗ (bigSep Finset.univ fun k => Φ (.send k)) ∗ bigSep Finset.univ fun k => Φ (.recv k)) := by
  rw [bigSep_sum, bigSep_sum, bigSep_univ_eq_bigSepL [()] (by decide) (by decide) (fun u : Unit => Φ (.inl u))]
  rfl

/-- What is held for both slots. -/
theorem bigSep_slot (Φ : Fin 2 → sProp 𝕄) : bigSep Finset.univ Φ = iprop(Φ 0 ∗ Φ 1) :=
  bigSep_univ_eq_bigSepL [0, 1] (by decide) (by decide) Φ

/-! ## The kernel's own semaphores -/

/-- The eighteen scoped semaphores: of the two slots, then of the eight sends and receives. -/
abbrev osem : Fin 2 ⊕ (Fin 8 ⊕ Fin 8) → SemLoc sig
  | .inl s => .dma (loadS s)
  | .inr j => csem (.inr j)

/-- These are the call's own semaphores. -/
theorem ownSemFacts : Pipeline.OwnSemFacts cfg0.spec osem := by decide

/-- The load semaphore of slot `s` at zero. -/
abbrev loadZero (c : Dev nD) (s : Fin 2) : sProp 𝕄 := semVal ((c : Thread nD τ), SemLoc.dma (loadS s)) 0

/-- The call's own semaphores at zero, named one by one. -/
theorem ownSems0_eq (c : Dev nD) :
    (Pipeline.ownSems0 (Ix := Unit) (Name := ℕ) (U := UU) (Lvl := ℕ) (Val := Elt F) (τ := τ) osem c : sProp 𝕄)
      = iprop((loadZero c 0 ∗ loadZero c 1) ∗ bigSep Finset.univ (zeroS c) ∗ bigSep Finset.univ (zeroR c)) := by
  unfold Pipeline.ownSems0
  rw [bigSep_sum, bigSep_sum, bigSep_slot]

/-- The only semaphore that outlives the call is the barrier's. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-! ## The tokens -/

/-- The token of a duty. -/
abbrev tokOf (x : Dev nD × Cell × Bool) : GSem nD τ sig × ℕ × Bool := (kcell (x.1, x.2.1), 0, x.2.2)
/-- Different duties have different tokens. -/
theorem tokOf_injective : Function.Injective tokOf := by
  rintro ⟨c, s, b⟩ ⟨c', s', b'⟩ h
  have h1 : ((c, s) : Dev nD × Cell) = (c', s') := kcell_injective (congrArg Prod.fst h)
  have h2 : b = b' := congrArg (fun y : GSem nD τ sig × ℕ × Bool => y.2.2) h
  rw [Prod.mk.injEq] at h1
  rw [h1.1, h1.2, h2]

/-- The cells of all devices, -/
def ringCells : Finset (GSem nD τ sig) := Finset.univ.map ⟨kcell, kcell_injective⟩
/-- and the tokens of all their duties. -/
def ringToks : Finset (GSem nD τ sig × ℕ × Bool) := Finset.univ.map ⟨tokOf, tokOf_injective⟩

/-- The two tokens of each of a device's cells. -/
def minted (c : Dev nD) : sProp 𝕄 := bigSep Finset.univ fun sb : Cell × Bool => dutyTok ER (kcell (c, sb.1)) 0 sb.2

/-- The tokens of the duties a device pays. -/
def pays (c : Dev nD) : sProp 𝕄 :=
  iprop((dutyTok ER (barCell (π c)) 0 false ∗ dutyTok ER (barCell (π.symm c)) 0 true) ∗ bigSep Finset.univ (toks π c))

/-- What is held for both truth values. -/
theorem bigSep_bool (Φ : Bool → sProp 𝕄) : bigSep Finset.univ Φ = iprop(Φ false ∗ Φ true) :=
  bigSep_univ_eq_bigSepL [false, true] (by decide) (by decide) Φ

/-- Those of them that some duty uses. -/
abbrev used (c : Dev nD) : sProp 𝕄 :=
  iprop(dutyTok ER (barCell c) 0 false ∗ dutyTok ER (barCell c) 0 true
    ∗ (bigSep Finset.univ fun k => dutyTok ER (sendCell c k) 0 false) ∗ bigSep Finset.univ fun k => dutyTok ER (recvCell c k) 0 false)

/-- Of the tokens minted for a device, the first of each cell and the second of its barrier are used. -/
theorem minted_used (c : Dev nD) : (minted c : sProp 𝕄) ⊢ used c := by
  have hpick (g : Fin 8 → GSem nD τ sig) : (bigSep Finset.univ fun k => bigSep Finset.univ fun b => (dutyTok ER (g k) 0 b : sProp 𝕄))
      ⊢ bigSep Finset.univ fun k => dutyTok ER (g k) 0 false := bigSep_mono fun k _ => bigSep_elim (Finset.mem_univ false)
  unfold minted
  rw [bigSep_univ_prod, bigSep_cell, bigSep_bool]
  iintro ⟨⟨Hf, Ht⟩, HS, HR⟩
  isplitl [Hf]; · iexact Hf
  isplitl [Ht]; · iexact Ht
  isplitl [HS]
  · iapply (hpick fun k => sendCell c k); iexact HS
  · iapply (hpick fun k => recvCell c k); iexact HR

/-- Every token to the device that pays its duty. -/
theorem pays_around : (bigSep Finset.univ fun c : Dev nD => (minted c : sProp 𝕄)) ⊢ bigSep Finset.univ fun c : Dev nD => pays π c := by
  suffices h : (bigSep Finset.univ fun c : Dev nD => (used c : sProp 𝕄)) ⊢ bigSep Finset.univ fun c : Dev nD => pays π c from
    (bigSep_mono fun c _ => minted_used c).trans h
  unfold pays toks
  simp only [bigSep_sep']
  rw [bigSep_univ_equiv π (fun c : Dev nD => (dutyTok ER (barCell c) 0 false : sProp 𝕄)),
    bigSep_univ_equiv π.symm (fun c : Dev nD => (dutyTok ER (barCell c) 0 true : sProp 𝕄)),
    bigSep_univ_equiv π (fun c : Dev nD => bigSep Finset.univ fun k => (dutyTok ER (recvCell c k) 0 false : sProp 𝕄))]
  iintro ⟨Hf, Ht, HS, HR⟩
  isplitl [Hf Ht]
  · isplitl [Hf]; · iexact Hf
    iexact Ht
  isplitl [HS]; · iexact HS
  iexact HR

/-! ## The global step -/

/-- What the launch element deals a device, -/
def G (c : Dev nD) : sProp 𝕄 :=
  iprop((bigSep Finset.univ fun s : Cell => roundState ER (rounds X π) (kcell (c, s)) 0)
    ∗ ((bigSep Finset.univ fun s : Cell => atPos ER (kcell (c, s)) 0 ∅ 0) ∗ bigSep Finset.univ fun s : Cell => reached ER (kcell (c, s)) 0) ∗ minted c)

/-- what all devices share, -/
def records (K : Dev nD × Cell → ℕ) : sProp 𝕄 :=
  iprop((bigSep Finset.univ fun cs : Dev nD × Cell => cellInv ER (rounds X π) (K cs) (kcell cs))
    ∗ bigSep Finset.univ fun cs : Dev nD × Cell => reached ER (kcell cs) 0)
instance records_persistent (K : Dev nD × Cell → ℕ) : BI.Persistent (records X π K) := by unfold records; infer_instance

/-- and what is a device's own after the step. -/
def share (c : Dev nD) : sProp 𝕄 :=
  iprop((loadZero c 0 ∗ loadZero c 1) ∗ (bigSep Finset.univ fun s : Cell => atPos ER (kcell (c, s)) 0 ∅ 0) ∗ pays π c)
/-- What a device starts from: the shared records under some names of the invariants, and its share. -/
def G' (c : Dev nD) : sProp 𝕄 := iprop(∃ K, records X π K ∗ share π c)

/-- The protocol's ghost state, split by device. -/
theorem fund_ring : BI.own (ER (initOf ringCells ringToks)) ⊢ (|==> bigSep Finset.univ (G X π) : sProp 𝕄) := by
  have hX (Φ : GSem nD τ sig → sProp 𝕄) : bigSep ringCells Φ = bigSep Finset.univ fun c : Dev nD => bigSep Finset.univ fun s : Cell => Φ (kcell (c, s)) := by
    unfold ringCells; rw [bigSep_map, bigSep_univ_prod]; rfl
  have hT : bigSep ringToks (fun x => (dutyTok ER x.1 x.2.1 x.2.2 : sProp 𝕄)) = bigSep Finset.univ fun c : Dev nD => minted c := by
    unfold ringToks minted; rw [bigSep_map, bigSep_univ_prod]; rfl
  iintro HX
  imod (Rounds.fund ER (rounds X π) ringCells ringToks) $$ HX with ⟨Hst, Hr, Hat, Htok⟩
  imodintro
  ihave Hst' := (Entails.of_eq (hX fun g => roundState ER (rounds X π) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- A device's cells, opened: their counters go into the invariants. -/
theorem core_alloc (c : Dev nD) :
    iprop(Pipeline.ownSems0 (Ix := Unit) (Name := ℕ) (U := UU) (Lvl := ℕ) (Val := Elt F) (τ := τ) osem c ∗ unscopedSems0 c ∗ G X π c)
      ⊢ |={Set.univ}=> iprop((bigSep Finset.univ fun s : Cell => iprop(∃ κ : ℕ, cellInv ER (rounds X π) κ (kcell (c, s))))
          ∗ (bigSep Finset.univ fun s : Cell => reached ER (kcell (c, s)) 0)
          ∗ (loadZero c 0 ∗ loadZero c 1) ∗ (bigSep Finset.univ fun s : Cell => atPos ER (kcell (c, s)) 0 ∅ 0) ∗ minted c) := by
  have halloc : iprop((bigSep Finset.univ fun s : Cell => semVal (kcell (c, s)) 0) ∗ bigSep Finset.univ fun s : Cell => roundState ER (rounds X π) (kcell (c, s)) 0)
      ⊢ (|={Set.univ}=> bigSep Finset.univ fun s : Cell => iprop(∃ κ : ℕ, cellInv ER (rounds X π) κ (kcell (c, s))) : sProp 𝕄) := by
    rw [← bigSep_sep']
    exact (bigSep_mono fun s _ => (Rounds.body_intro ER (rounds X π) (kcell (c, s))).trans inv_alloc).trans (bigSep_fupd _ _)
  have hsems : (bigSep Finset.univ fun s : Cell => (semVal (kcell (c, s)) 0 : sProp 𝕄))
      = iprop(semVal (barCell c) 0 ∗ bigSep Finset.univ (zeroS c) ∗ bigSep Finset.univ (zeroR c)) := bigSep_cell _
  rw [hsems] at halloc
  rw [ownSems0_eq, unscopedSems0_eq]
  unfold G
  iintro ⟨⟨Hl, HS, HR⟩, HB, Hst, ⟨Hat, Hre⟩, Htok⟩
  imod halloc $$ [HB HS HR Hst] with Hinv
  · isplitr [Hst]
    · isplitl [HB]; · iexact HB
      isplitl [HS] <;> iassumption
    · iexact Hst
  imodintro
  isplitl [Hinv]; · iexact Hinv
  isplitl [Hre]; · iexact Hre
  isplitl [Hl]; · iexact Hl
  isplitl [Hat] <;> iassumption

/-- Records and share are what a device starts from. -/
theorem deal_one (K : Dev nD × Cell → ℕ) (c : Dev nD) : iprop(records X π K ∗ share π c) ⊢ G' X π c := by
  unfold G'; iintro H; iexists K; iexact H

/-- The tokens of all devices, dealt to the devices that pay them. -/
theorem regroup :
    (bigSep Finset.univ fun c : Dev nD => iprop((bigSep Finset.univ fun s : Cell => iprop(∃ κ : ℕ, cellInv ER (rounds X π) κ (kcell (c, s))))
          ∗ (bigSep Finset.univ fun s : Cell => reached ER (kcell (c, s)) 0)
          ∗ (loadZero c 0 ∗ loadZero c 1) ∗ (bigSep Finset.univ fun s : Cell => atPos ER (kcell (c, s)) 0 ∅ 0) ∗ minted c) : sProp 𝕄)
      ⊢ bigSep Finset.univ (G' X π) := by
  rw [bigSep_sep', bigSep_sep', bigSep_sep' _ (fun c : Dev nD => iprop(loadZero (F := F) c 0 ∗ loadZero c 1)), bigSep_sep' _ _ minted,
    ← bigSep_univ_prod (fun cs : Dev nD × Cell => iprop(∃ κ : ℕ, cellInv ER (rounds X π) κ (kcell cs))),
    ← bigSep_univ_prod (fun cs : Dev nD × Cell => (reached ER (kcell cs) 0 : sProp 𝕄))]
  iintro ⟨HI, #HR, Hl, Hat, Htok⟩
  ihave HK := (BI.bigSep_exists_pi Finset.univ (fun (cs : Dev nD × Cell) (κ : ℕ) => (cellInv ER (rounds X π) κ (kcell cs) : sProp 𝕄))) $$ HI
  icases HK with ⟨%K, #HI⟩
  ihave Hp := (pays_around (F := F) π) $$ Htok
  iapply (show iprop(records X π K ∗ bigSep Finset.univ fun c : Dev nD => share π c) ⊢ bigSep Finset.univ (G' X π) from
    (sep_mono_left (BI.bigSep_of_persistent Finset.univ (records X π K))).trans (by rw [← bigSep_sep']; exact bigSep_mono fun c _ => deal_one X π K c))
  isplitr
  · unfold records; isplitl; · iexact HI
    iexact HR
  · iapply (Entails.of_eq (show iprop((bigSep Finset.univ fun c : Dev nD => iprop(loadZero (F := F) c 0 ∗ loadZero c 1))
        ∗ (bigSep Finset.univ fun c : Dev nD => bigSep Finset.univ fun s : Cell => atPos ER (kcell (c, s)) 0 ∅ 0) ∗ bigSep Finset.univ (pays π))
        = bigSep Finset.univ (share (F := F) π) from by
          unfold share; rw [bigSep_sep' _ (fun c : Dev nD => iprop(loadZero (F := F) c 0 ∗ loadZero c 1)), bigSep_sep' _ _ (pays π)]))
    isplitl [Hl]; · iexact Hl
    isplitl [Hat]; · iexact Hat
    iexact Hp

/-- The deal at the launch: from what every device has to what every device starts from. -/
theorem glob : (bigSep Finset.univ fun c => iprop(Pipeline.ownSems0 (Ix := Unit) (Name := ℕ) (U := UU) (Lvl := ℕ) (Val := Elt F) (τ := τ) osem c ∗ unscopedSems0 c ∗ G X π c) : sProp 𝕄)
    ⊢ |={Set.univ}=> bigSep Finset.univ (G' X π) :=
  ((bigSep_mono fun c _ => core_alloc X π c).trans (bigSep_fupd _ _)).trans (BI.fupd_mono (regroup X π))

/-! ## The launch credit -/

/-- A tally on one cell, read at another. -/
theorem tally_cell (c d : Dev nD) (s t : Cell) (a : ℕ) :
    (tallyAt (kcell (d, t)) () a : CellTallies nD τ sig Unit) (kcell (c, s)) () = if c = d ∧ s = t then a else 0 := by
  rw [tallyAt_apply]
  exact if_congr ⟨fun h => by have := kcell_injective h.1; rw [Prod.mk.injEq] at this; exact this, fun h => ⟨by rw [h.1, h.2], rfl⟩⟩ rfl rfl

/-- Landings are not owed to a barrier. -/
theorem owedRecv_at_bar (d c : Dev nD) (n : ℕ) : owedRecv π d n (barCell c) () = 0 := by
  induction n with
  | zero => rfl
  | succ n ih =>
    show (owedRecv π d n + tallyAt (recvCell (π d) (ck (7 - n))) () N) (barCell c) () = 0
    rw [Pi.add_apply, Finsupp.add_apply, ih, tally_cell, if_neg fun h => Sum.inl_ne_inr h.2]

/-- Device `d`, with `n` chunks to send, owes one landing to each receive cell of those chunks at its destination. -/
theorem owedRecv_at_recv (d c : Dev nD) (k : Fin 8) (n : ℕ) (hn : n ≤ 8) :
    owedRecv π d n (recvCell c k) () = if c = π d ∧ 8 - n ≤ k.val then N else 0 := by
  induction n with
  | zero => exact (if_neg fun h => absurd h.2 (by omega)).symm
  | succ n ih =>
    show (owedRecv π d n + tallyAt (recvCell (π d) (ck (7 - n))) () N) (recvCell c k) () = _
    rw [Pi.add_apply, Finsupp.add_apply, ih (by omega), tally_cell]
    have hk : (Cell.recv k = Cell.recv (ck (7 - n))) ↔ k.val = 7 - n := by
      rw [Sum.inr.injEq, Sum.inr.injEq, Fin.ext_iff]; show k.val = (7 - n) % 8 ↔ _; rw [Nat.mod_eq_of_lt (by omega)]
    rw [if_congr (and_congr_right fun _ => hk) rfl rfl]
    by_cases hc : c = π d
    · simp only [hc, true_and]; split <;> split <;> split <;> omega
    · simp only [hc, false_and, if_false]

/-- What device `d` owes device `c`'s barrier, -/
theorem owed_at_bar (d c : Dev nD) : owed π d (barCell c) () = (if d = π c then 1 else 0) + (if d = π.symm c then 1 else 0) := by
  unfold owed owedBar
  rw [Pi.add_apply, Finsupp.add_apply, Pi.add_apply, Finsupp.add_apply, owedRecv_at_bar, tally_cell, tally_cell, Nat.zero_add]
  congr 1
  · exact if_congr ⟨fun h => by rw [h.1, π.apply_symm_apply], fun h => ⟨by rw [h, π.symm_apply_apply], rfl⟩⟩ rfl rfl
  · exact if_congr ⟨fun h => by rw [h.1, π.symm_apply_apply], fun h => ⟨by rw [h, π.apply_symm_apply], rfl⟩⟩ rfl rfl

/-- and its receive semaphores. -/
theorem owed_at_recv (d c : Dev nD) (k : Fin 8) : owed π d (recvCell c k) () = if d = π.symm c then N else 0 := by
  unfold owed owedBar
  rw [Pi.add_apply, Finsupp.add_apply, Pi.add_apply, Finsupp.add_apply, owedRecv_at_recv π d c k 8 le_rfl, tally_cell, tally_cell,
    if_neg (c := c = π.symm d ∧ Cell.recv k = Cell.bar) (fun h => Sum.inr_ne_inl h.2),
    if_neg (c := c = π d ∧ Cell.recv k = Cell.bar) (fun h => Sum.inr_ne_inl h.2)]
  exact if_congr ⟨fun h => by rw [h.1, π.symm_apply_apply], fun h => ⟨by rw [h, π.apply_symm_apply], by omega⟩⟩ rfl rfl

/-- The launch credits a barrier with two units, -/
theorem launch_bar (c : Dev nD) :
    tallyOn (barCell c) (launchCredit (Pipeline.owing (owed π)) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_at_bar π d c, Finset.sum_add_distrib,
    Finset.sum_ite_eq' Finset.univ (π c) fun _ => 1, Finset.sum_ite_eq' Finset.univ (π.symm c) fun _ => 1, if_pos (Finset.mem_univ _), if_pos (Finset.mem_univ _)]

/-- and a receive cell with one chunk. -/
theorem launch_recv (c : Dev nD) (k : Fin 8) :
    tallyOn (recvCell c k) (launchCredit (Pipeline.owing (owed π)) 0 (recvCell c k)) = (tallyAt (recvCell c k) () N : CellTallies nD τ sig Unit) := by
  unfold tallyAt; refine congrArg _ (Finsupp.ext fun u => ?_); cases u
  rw [Pipeline.launchCredit_owing, Finsupp.single_eq_same, Finset.sum_congr rfl fun d _ => owed_at_recv π d c k,
    Finset.sum_ite_eq' Finset.univ (π.symm c) fun _ => N, if_pos (Finset.mem_univ _)]

/-- A device's credits at the launch. -/
theorem creds (c : Dev nD) :
    (Pipeline.launchCred (owed π) c : sProp 𝕄) ⊢ iprop(cred (tallyAt (barCell c) () 2) ∗ bigSep Finset.univ (credR c)) := by
  unfold Pipeline.launchCred
  refine (bigSep_subset (Finset.subset_univ (Finset.univ.map ⟨csem, csem_injective⟩))).trans ?_
  rw [bigSep_map, bigSep_cell]
  show iprop(cred (tallyOn (barCell c) (launchCredit (Pipeline.owing (owed π)) 0 (barCell c))) ∗ _
    ∗ bigSep Finset.univ fun k => cred (tallyOn (recvCell c k) (launchCredit (Pipeline.owing (owed π)) 0 (recvCell c k)))) ⊢ _
  rw [launch_bar, bigSep_congr fun k _ => congrArg cred (launch_recv π c k)]
  iintro ⟨HB, -, HR⟩
  isplitl [HB] <;> iassumption

end Cert.Permute

end
-- ==== Proof.Launch.lean ====
/-
The run of the whole program, for any float values and any permutation the tables say.

Each device enters its kernel with its share of the cells (`Deal`), its block, its result array and its scratch buffers, and
leaves it with the block unchanged, the result array holding its source's block rounded, and every semaphore at zero.
-/
module

public import proofs.«01_k».proof.Proof.Deal
public import proofs.«01_k».proof.Proof.Gen.KernelIdeal.Points
public import Idealize.ShloMosaic.Lib.Pipeline.CollectiveSegs

@[expose] public section

set_option maxRecDepth 16384

noncomputable section

namespace Cert.Permute

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ UU ℕ

/-! ## The buffers whole and by chunks -/

section Buffers

variable (c : Dev nD)

/-- The whole of a device's `x`, -/
abbrev xAll (f : Block F) : sProp 𝕄 := ((c : Thread nD τ).loc main_arg0) ↦{fullShare} f
/-- of its result, -/
abbrev outAll (f : S1x2048x1024.Idx → Elt F .bf16) : sProp 𝕄 := ((c : Thread nD τ).loc main_v1) ↦{fullShare} f
/-- of its slots, -/
abbrev slotAll (f : S2x256x1024.Idx → Elt F .f32) : sProp 𝕄 := ((c : Thread nD τ).loc cc0_scratch0) ↦{fullShare} f
/-- of its bfloat16 buffer. -/
abbrev packAll (f : S2048x1024.Idx → Elt F .bf16) : sProp 𝕄 := ((c : Thread nD τ).loc cc0_scratch1) ↦{fullShare} f

/-- A chunk of `x` as a part of the buffer; -/
theorem xPts_eq (k : Fin 8) (f : Block F) : (xPts c k f : sProp 𝕄) = (((c : Thread nD τ).loc main_arg0) ↦[(rows3 k).set]{fullShare} f) := by
  rw [← set_xC]
/-- the buffer is its chunks. -/
theorem xAll_eq (f : Block F) : (xAll c f : sProp 𝕄) = bigSep Finset.univ fun k => xPts c k f :=
  (Ring.pointsTo_blocks (ℓ := (c : Thread nD τ).loc main_arg0) (fun k => (rows3 k).set) rows3_disjoint rows3_cover f).trans
    (bigSep_congr fun k _ => (xPts_eq c k f).symm)
/-- A chunk of the result as a part of the buffer; -/
theorem outPts_eq (k : Fin 8) (f : S1x2048x1024.Idx → Elt F .bf16) : (outPts c k f : sProp 𝕄) = (((c : Thread nD τ).loc main_v1) ↦[(rows3 k).set]{fullShare} f) := by
  rw [← set_outC]
/-- the buffer is its chunks. -/
theorem outAll_eq (f : S1x2048x1024.Idx → Elt F .bf16) : (outAll c f : sProp 𝕄) = bigSep Finset.univ fun k => outPts c k f :=
  (Ring.pointsTo_blocks (ℓ := (c : Thread nD τ).loc main_v1) (fun k => (rows3 k).set) rows3_disjoint rows3_cover f).trans
    (bigSep_congr fun k _ => (outPts_eq c k f).symm)
/-- A slot as a part of the buffer; -/
theorem slotPts_eq (s : Fin 2) (f : S2x256x1024.Idx → Elt F .f32) : (slotPts c s f : sProp 𝕄) = (((c : Thread nD τ).loc cc0_scratch0) ↦[(slotR s).set]{fullShare} f) := by
  rw [← set_slotC]
/-- the buffer is its slots. -/
theorem slotAll_eq (f : S2x256x1024.Idx → Elt F .f32) : (slotAll c f : sProp 𝕄) = bigSep Finset.univ fun s => slotPts c s f :=
  (Ring.pointsTo_blocks (ℓ := (c : Thread nD τ).loc cc0_scratch0) (fun s => (slotR s).set) slotR_disjoint slotR_cover f).trans
    (bigSep_congr fun s _ => (slotPts_eq c s f).symm)
/-- A chunk of the bfloat16 buffer as a part of it; -/
theorem packPts_eq (k : Fin 8) (f : S2048x1024.Idx → Elt F .bf16) : (packPts c k f : sProp 𝕄) = (((c : Thread nD τ).loc cc0_scratch1) ↦[(rows2 k).set]{fullShare} f) := by
  rw [← set_packC]
/-- the buffer is its chunks. -/
theorem packAll_eq (f : S2048x1024.Idx → Elt F .bf16) : (packAll c f : sProp 𝕄) = bigSep Finset.univ fun k => packPts c k f :=
  (Ring.pointsTo_blocks (ℓ := (c : Thread nD τ).loc cc0_scratch1) (fun k => (rows2 k).set) rows2_disjoint rows2_cover f).trans
    (bigSep_congr fun k _ => (packPts_eq c k f).symm)

/-- The chunks of a result whose contents are forgotten, -/
theorem outAll_free (f : S1x2048x1024.Idx → Elt F .bf16) : outAll c f ⊢ bigSep Finset.univ (outFree (F := F) c) := by
  rw [outAll_eq]
  exact bigSep_mono fun k _ => show outPts c k f ⊢ outFree (F := F) c k from by unfold outFree; iintro H; iexists f; iexact H
/-- and of a bfloat16 buffer whose contents are. -/
theorem packAll_free (f : S2048x1024.Idx → Elt F .bf16) : packAll c f ⊢ bigSep Finset.univ (packFree (F := F) c) := by
  rw [packAll_eq]
  exact bigSep_mono fun k _ => show packPts c k f ⊢ packFree (F := F) c k from by unfold packFree; iintro H; iexists f; iexact H

/-- The two slots, each at contents of its own, are the buffer at some contents. -/
theorem slots_join : iprop((∃ f, slotPts (F := F) c 0 f) ∗ ∃ f, slotPts (F := F) c 1 f) ⊢ iprop(∃ f, slotAll (F := F) c f) := by
  iintro ⟨⟨%f, H0⟩, ⟨%g, H1⟩⟩
  iapply (Ring.pointsTo_blocks_join (ℓ := (c : Thread nD τ).loc cc0_scratch0) (fun s => (slotR s).set) slotR_disjoint slotR_cover ![f, g] f)
  rw [bigSep_slot]
  isplitl [H0]; · iapply (Entails.of_eq (slotPts_eq c 0 f)); iexact H0
  iapply (Entails.of_eq (slotPts_eq c 1 g)); iexact H1

end Buffers

/-! ## What a device holds at its kernel's entry and exit -/

variable (m : (ℓ : Loc nD τ sig) → Buf (Elt F) ℓ) (ρ : Dev nD → PrngReg) (π : Dev nD ≃ Dev nD)

/-- The blocks as launched. -/
abbrev blocks (c : Dev nD) : Block F := m ((c : Thread nD τ).loc main_arg0)

/-- What the launch gives a device besides its scratch buffers, -/
def start (c : Dev nD) : sProp 𝕄 :=
  iprop(G' (blocks m) π c ∗ (cred (tallyAt (barCell c) () 2) ∗ bigSep Finset.univ (credR c)) ∗ levAts L lv
    ∗ xAll c (blocks m c) ∗ ∃ f, outAll (F := F) c f)
/-- with them, -/
def Φ₀ (c : Dev nD) : sProp 𝕄 := iprop(start m π c ∗ (∃ f, slotAll (F := F) c f) ∗ ∃ f, packAll (F := F) c f)
/-- and what the kernel leaves. -/
def Φ₁ (c : Dev nD) : sProp 𝕄 :=
  iprop((semVal (barCell c) 0 ∗ xAll c (blocks m c) ∗ outAll c (sent (blocks m (π.symm c))))
    ∗ ((loadZero c 0 ∗ loadZero c 1) ∗ bigSep Finset.univ (zeroS c) ∗ bigSep Finset.univ (zeroR c))
    ∗ (∃ f, slotAll (F := F) c f) ∗ ∃ f, packAll (F := F) c f)

/-- The table as staged for the kernel. -/
def staged (c : Dev nD) : IVec S4 32 := (win0_0.blk t0_0).view.read (Elt F) (m ((c : Thread nD τ).loc main_arg1))

/-- What is staged is the table. -/
theorem staged_eq (c : Dev nD) : staged m c = m ((c : Thread nD τ).loc main_arg1) :=
  funext fun i => congrArg (m ((c : Thread nD τ).loc main_arg1)) (funext fun a => by
    have h : ∀ j : Fin 4, (show Fin 4 from (win0_0.blk t0_0).view.emb (ix1 j) 0) = j := by decide
    have hi : i = ix1 (i 0) := funext fun b => by fin_cases b; rfl
    fin_cases a; rw [hi]; exact h (i 0))

/-- The call's data: what it reads, what it holds before and after, and what it owes. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => staged m c
  Φ t := match t with
    | ⟨0, _⟩ => Φ₀ m π c
    | ⟨_ + 1, _⟩ => Φ₁ m π c
  q _ := fullShare
  owed t := match t with
    | ⟨0, _⟩ => owed π c
    | ⟨_ + 1, _⟩ => 0

/-! ## The body -/

/-- A device's share of the launch is what its kernel starts from, -/
theorem enter (c : Dev nD) :
    iprop(share π c ∗ (cred (tallyAt (barCell c) () 2) ∗ bigSep Finset.univ (credR c)) ∗ xAll c (blocks m c) ∗ (∃ f, outAll (F := F) c f)
        ∗ (∃ f, slotAll (F := F) c f) ∗ ∃ f, packAll (F := F) c f)
      ⊢ iprop((dutyTok ER (barCell (π c)) 0 false ∗ dutyTok ER (barCell (π.symm c)) 0 true) ∗ bigSep Finset.univ (outFree c)
        ∗ (owesSome c (owedRecv π c 8) -∗ ready (blocks m) π c)) := by
  unfold share pays ready
  iintro ⟨⟨⟨Hl0, Hl1⟩, Hat, Hbt, Htoks⟩, ⟨HcB, HcR⟩, Hx, ⟨%fo, Ho⟩, ⟨%fs, Hs⟩, ⟨%fp, Hp⟩⟩
  ihave Hat' := (Entails.of_eq (bigSep_cell (F := F) fun s => atPos ER (kcell (c, s)) 0 ∅ 0)) $$ Hat
  icases Hat' with ⟨HaB, HaS, HaR⟩
  isplitl [Hbt]; · iexact Hbt
  isplitl [Ho]; · iapply (outAll_free c fo); iexact Ho
  iintro HO
  ihave Hs' := (Entails.of_eq ((slotAll_eq c fs).trans (bigSep_slot _))) $$ Hs
  icases Hs' with ⟨Hs0, Hs1⟩
  isplitl [Hx]; · iapply (Entails.of_eq (xAll_eq c (blocks m c))); iexact Hx
  isplitl [Hp]; · iapply (packAll_free c fp); iexact Hp
  isplitl [Hs0 Hl0]
  · unfold slotFree; isplitl [Hs0]
    · iexists fs; iexact Hs0
    · iexact Hl0
  isplitl [Hs1 Hl1]
  · unfold slotFree; isplitl [Hs1]
    · iexists fs; iexact Hs1
    · iexact Hl1
  isplitl [Htoks]; · iexact Htoks
  isplitl [HcB HaB]
  · isplitl [HcB]; · iexact HcB
    iexact HaB
  isplitl [HaS]; · iexact HaS
  isplitl [HcR]; · iexact HcR
  isplitl [HaR]; · iexact HaR
  iexact HO

/-- and what it ends with is what it leaves. -/
theorem leave (c : Dev nD) : (finished (blocks m) π c : sProp 𝕄) ⊢ iprop(Φ₁ m π c ∗ owesSome c 0) := by
  unfold finished Φ₁ slotFree
  iintro ⟨Hx, Hp, ⟨Hs0, Hl0⟩, ⟨Hs1, Hl1⟩, Ho, HzB, HzS, HzR, HO⟩
  isplitr [HO]
  · isplitl [Hx Ho HzB]
    · isplitl [HzB]; · iexact HzB
      isplitl [Hx]; · iapply (Entails.of_eq (xAll_eq c (blocks m c)).symm); iexact Hx
      iapply (Entails.of_eq (outAll_eq c (sent (blocks m (π.symm c)))).symm); iexact Ho
    isplitl [Hl0 Hl1 HzS HzR]
    · isplitl [Hl0 Hl1]
      · isplitl [Hl0]; · iexact Hl0
        iexact Hl1
      isplitl [HzS]; · iexact HzS
      iexact HzR
    isplitl [Hs0 Hs1]
    · iapply (slots_join c)
      isplitl [Hs0]; · iexact Hs0
      iexact Hs1
    iexists (packed (blocks m c))
    iapply (Entails.of_eq (packAll_eq c (packed (blocks m c))).symm); iexact Hp
  · iexact HO

/-- The kernel on device `c`, from what the launch gives it to what it leaves. -/
theorem kernel_run (c : Dev nD) (T : IVec S4 32) (hT : Says π T) :
    iprop(Φ₀ m π c ∗ tabPts c T ∗ owesSome c (owed π c))
      ⊢ run c (onBuffers (cc0_body (F := F))) (fun _ => iprop(tabPts c T ∗ Φ₁ m π c ∗ owesSome c 0)) := by
  unfold Φ₀ start G'
  iintro ⟨⟨⟨⟨%K, #Hr, Hsh⟩, Hcr, #Hlev, Hx, Ho⟩, Hs, Hp⟩, Ht, HO⟩
  ihave H := (enter m π c) $$ [Hsh Hcr Hx Ho Hs Hp]
  · isplitl [Hsh]; · iexact Hsh
    isplitl [Hcr]; · iexact Hcr
    isplitl [Hx]; · iexact Hx
    isplitl [Ho]; · iexact Ho
    isplitl [Hs] <;> iassumption
  icases H with ⟨Hbt, Hout, Hready⟩
  iapply (wp_wand _ _ _) $$ [Ht HO Hbt Hout Hready]
  · iapply (body_run (blocks m) π K c T hT)
    isplitr
    · unfold env records
      isplitr
      · iexact Hr
      · iexact Hlev
    isplitl [Ht]; · iexact Ht
    isplitl [Hbt]; · iexact Hbt
    isplitl [Hout]; · iexact Hout
    isplitl [HO]; · iexact HO
    iexact Hready
  iintro %u ⟨Ht, Hf⟩
  isplitl [Ht]; · iexact Ht
  iapply (leave m π c); iexact Hf

/-- The staging buffer of the table. -/
abbrev stg (c : Dev nD) (T : IVec S4 32) : sProp 𝕄 :=
  iprop(∃ f : Buf (Elt F) ((c : Thread nD τ).loc cc0_stg0_0), ⌜f = T⌝ ∗ (((c : Thread nD τ).loc cc0_stg0_0) ↦{fullShare} f))

/-- Owning the staged window is holding its buffer. -/
theorem owns_stg (c : Dev nD) (T : IVec S4 32) :
    (owns (Ix := Unit) (Name := ℕ) (U := UU) (Lvl := ℕ) (c : Thread nD τ) (Memref.whole cc0_stg0_0) fullShare T : sProp 𝕄) = stg c T := by
  unfold owns; simp only [Memref.view_whole, View.read_whole, View.set_whole]

/-- The body of the call does what the data say, where every table says `π`. -/
theorem body_obligation (h : ∀ c : Dev nD, Says π (m ((c : Thread nD τ).loc main_arg1))) (c : Dev nD) :
    BodyObligation (dats (F := F) m ρ π 0 c) (defs₀ (F := F)) 𝒱₀ () Set.univ := fun t => by
  rw [fin_N0 t, bigSep_W0, bigSep_W0]
  show iprop(Φ₀ m π c ∗ (dats m ρ π 0 c).owesAt () t0_0.castSucc ∗ ∃ d, owns (c : Thread nD τ) (Memref.whole cc0_stg0_0) fullShare ((dats m ρ π 0 c).before (0 : Fin 1) t0_0 d))
    ⊢ run c (onBuffers (cc0_body (F := F))) (fun _ => iprop(Φ₁ m π c ∗ (dats m ρ π 0 c).owesAt () t0_0.succ ∗ owns (c : Thread nD τ) (Memref.whole cc0_stg0_0) fullShare (staged m c)))
  simp only [owns_stg]
  unfold Dat.owesAt Pipeline.owesWithin
  rw [show (dats m ρ π 0 c).owed t0_0.castSucc = owed π c from rfl, show (dats m ρ π 0 c).owed t0_0.succ = 0 from rfl]
  iintro ⟨HΦ, ⟨%W, %hW, HO⟩, ⟨%d, %f, %hf, Ht⟩⟩
  have hs : f = staged m c := by rw [hf]; unfold Dat.before; rw [if_pos (fetch0_0 t0_0)]; rfl
  subst hs
  iapply (wp_wand _ _ _) $$ [HΦ HO Ht]
  · iapply (kernel_run m π c (staged m c) (by rw [staged_eq]; exact h c))
    isplitl [HΦ]; · iexact HΦ
    isplitl [Ht]; · iexact Ht
    unfold owesSome; iexists W; iexact HO
  unfold owesSome
  iintro %u ⟨Ht, HΦ, ⟨%W', HO⟩⟩
  isplitl [HΦ]; · iexact HΦ
  isplitl [HO]
  · iexists W'
    isplitr; · ipureintro; exact fun _ _ => Or.inl trivial
    iexact HO
  iexists (staged m c)
  isplitr; · ipureintro; rfl
  iexact Ht

/-! ## The launch -/

/-- A window is held whole. -/
theorem share_eq (c : Dev nD) (w : Fin cfg0.W) : (dats m ρ π 0 c).share w = fullShare := by unfold Dat.share; split <;> rfl

/-- The ghost state at the launch. -/
def u₀ : UU := (initOf (Pipeline.cells cfgs cellOf_inj) (Pipeline.launchToks cfgs cellOf_inj), (initOf ringCells ringToks, 1))

/-- From the launch to the state before the call, -/
theorem start_intro (c : Dev nD) :
    iprop(Pipeline.unscopedRestP Pipeline.Prefetch.none cfg0.spec c (fun b => m ((c : Thread nD τ).loc b)) ∗ levAts L lv
        ∗ Pipeline.launchCred (owed π) c ∗ prngReg c (ρ c) ∗ G' (blocks m) π c)
      ⊢ |={Set.univ}=> iprop(start m π c ∗ emp) := by
  rw [Pipeline.unscopedRestP_none, unscopedRest0_eq]
  unfold start
  iintro ⟨⟨Hx, Ho⟩, Hlev, Hcr, -, HG⟩
  ihave Hc := (creds (F := F) π c) $$ Hcr
  imodintro
  isplitl
  · isplitl [HG]; · iexact HG
    isplitl [Hc]; · iexact Hc
    isplitl [Hlev]; · iexact Hlev
    isplitl [Hx]; · iexact Hx
    iexists _; iexact Ho
  · iempintro

/-- from there to the body's first state, -/
theorem phi0_intro (c : Dev nD) :
    iprop(start m π c ∗ Pipeline.prefHeld Pipeline.Prefetch.none c (fun _ => fullShare.right) (fun k => k.elim0) ∗ Pipeline.scopedRest cfg0.spec c)
      ⊢ (dats m ρ π 0 c).Φ 0 := by
  rw [show (dats m ρ π 0 c).Φ 0 = Φ₀ m π c from rfl, scopedRest0_eq]
  unfold Φ₀
  iintro ⟨Hs, -, Hr⟩
  isplitl [Hs]; · iexact Hs
  iexact Hr

/-- What a device still holds at the end of the program. -/
abbrev kept (c : Dev nD) : sProp 𝕄 := iprop(semVal (barCell c) 0 ∗ xAll c (blocks m c) ∗ outAll c (sent (blocks m (π.symm c))))

/-- and from the body's last state to what is kept. -/
theorem phi1_exit (c : Dev nD) :
    (dats m ρ π 0 c).Φ (Fin.last cfg0.N) ⊢ iprop(kept m π c ∗ Pipeline.ownSems0 osem c ∗ Pipeline.scopedRest cfg0.spec c) := by
  rw [show (dats m ρ π 0 c).Φ (Fin.last cfg0.N) = Φ₁ m π c from rfl, scopedRest0_eq, ownSems0_eq]
  unfold Φ₁
  iintro H; iexact H

/-- The levels allow the waits of the staging. -/
theorem waits (c : Dev nD) : (levAts L lv : sProp 𝕄) ⊢ Pipeline.cellsWaits cfgs (dats m ρ π) () 0 c :=
  Pipeline.cellsWaits_intro cfgs (dats m ρ π) () 0 c fun w s t =>
    mayWait c _ _ (by
      have hl : lvOf (SemLoc.dma ((cfg0.win w).sem s)) = 0 := by fin_cases w; fin_cases s; decide
      show OwesAbove (lvOf (SemLoc.dma ((cfg0.win w).sem s))) _
      rw [hl]
      rcases t with ⟨_ | _, ht⟩
      · exact owed_above π c
      · exact .zero _)

/-- What the memory of device `c` is at the end. -/
structure Done (c : Dev nD) (s : MemSt nD τ sig (Elt F)) : Prop where
  sems : ∀ sm : SemLoc sig, sm.isScoped .tc = false → s.sem ((c.tc : Thread nD τ), sm) = 0
  x : s.mem ((c : Thread nD τ).loc main_arg0) = blocks m c
  out : s.mem ((c : Thread nD τ).loc main_v1) = sent (blocks m (π.symm c))

/-- A buffer held whole is what the memory has. -/
theorem read_buf (c : Dev nD) (b : Ref sig .tc) (f : Buf (Elt F) ((c : Thread nD τ).loc b)) (s' : Phys nD τ sig (Elt F)) :
    iprop((((c : Thread nD τ).loc b) ↦{fullShare} f) ∗ SI s') ⊢ (iprop(⌜s'.mem.mem ((c : Thread nD τ).loc b) = f⌝ ∗ SI s') : sProp 𝕄) := by
  iintro ⟨H, HSI⟩
  icombine HSI H gives %h
  isplitr
  · ipureintro; exact Buf.eq_of_forall_mem_univ h
  iexact HSI

/-- What is kept says that the device is done. -/
theorem kept_read (c : Dev nD) (s' : Phys nD τ sig (Elt F)) :
    iprop(kept m π c ∗ emp ∗ SI s') ⊢ (|={Set.univ}=> iprop(⌜Done m π c s'.mem⌝ ∗ SI s') : sProp 𝕄) := by
  iintro ⟨⟨HB, Hx, Ho⟩, -, HSI⟩
  ihave H := (read_buf c main_arg0 (blocks m c) s') $$ [Hx HSI]
  · isplitl [Hx] <;> iassumption
  icases H with ⟨%hx, HSI⟩
  ihave H := (read_buf c main_v1 (sent (blocks m (π.symm c))) s') $$ [Ho HSI]
  · isplitl [Ho] <;> iassumption
  icases H with ⟨%ho, HSI⟩
  imod (Pipeline.unscopedSems0_read (X := unscopedSems0 c) (c := c) fupd_intro s') $$ [HB HSI] with ⟨%hs, HSI⟩
  · rw [unscopedSems0_eq]
    isplitl [HB] <;> iassumption
  imodintro
  isplitr
  · ipureintro; exact ⟨hs, hx, ho⟩
  iexact HSI

set_option maxRecDepth 8000 in
/-- From any memory whose tables all say `π`, with zero counters: the program terminates on every schedule, and in every final
    state the arguments are as they were, device `c` holds the block of device `π⁻¹ c` rounded to bfloat16, and
    every semaphore reads zero. -/
theorem run_main (h : ∀ c : Dev nD, Says π (m ((c : Thread nD τ).loc main_arg1))) :
    θ_run defs (onTc (τ := τ) (main (F := F))) (s₀ m ρ) (fun r =>
      (∀ c : Dev nD, r.2.mem ((c : Thread nD τ).loc main_v1) = sent (blocks m (π.symm c))
        ∧ r.2.mem ((c : Thread nD τ).loc main_arg0) = m ((c : Thread nD τ).loc main_arg0)
        ∧ r.2.mem ((c : Thread nD τ).loc main_arg1) = m ((c : Thread nD τ).loc main_arg1)) ∧ r.2.sem = fun _ => 0) :=
  Pipeline.θ_run_region_owing_glob_pf (fun p => (cfgs p).toPCfg) (fun p => (cfgs p).toPCfg_adm) (dats m ρ π) () cellOf_inj (0 : Fin 1)
    winFacts0.to₀ ownSemFacts (Pipeline.PreFacts.none _) EP defs₀ 𝒱₀ m ρ main
    (hmain := fun _ => rfl)
    (hbody := body_obligation m ρ π h) (hne := fun w => by fin_cases w <;> exact Nat.succ_pos _) (harr := arr_whole0) (hstage := stage_whole0)
    (hshare := share_eq m ρ π) (hdistinct := winFacts0.arr_inj)
    (O₀ := owed π) (howed₀ := fun _ => rfl) (howedN := fun _ => rfl)
    (L := L) (lv := lv) (hL := L_of_ne) (hwaits := waits m ρ π)
    (G := G (blocks m) π) (G' := G' (blocks m) π) (u₀ := u₀)
    (hu₀ := by
      unfold u₀
      iintro Hu
      ihave H := (ownU_pair _ _) $$ Hu
      icases H with ⟨HP, HX⟩
      ihave HX' := (show (BI.own ((embR : Emb Own 𝕄) (initOf ringCells ringToks, 1)) : sProp 𝕄) ⊢ BI.own (ER (initOf ringCells ringToks)) from BI.Entails.refl _) $$ HX
      imod (fund_ring (blocks m) π) $$ HX' with HG
      imodintro
      isplitl [HP] <;> iassumption)
    (hglob := glob (blocks m) π)
    (hA := fun _ _ => rfl) (hpf := fun _ k => k.elim0)
    (X := start m π) (Y := kept m π) (Z := fun _ => iprop(emp))
    (hX := start_intro m ρ π) (hin := phi0_intro m ρ π) (hout := phi1_exit m ρ π)
    (QY := Done m π) (hY := kept_read m π)
    (hQ := fun _ h hs => ⟨fun c => ⟨(h c).2.2.out, (h c).2.2.x, ((h c).1 0).trans ((dats m ρ π 0 c).arrAt_in 0 rfl _)⟩,
      sem_eq_zero hs fun c => (h c).2.2.sems⟩)

end Cert.Permute

end
-- ==== Proof.Reference.lean ====
/-
What the reference computes.

The reference sorts the positions `0 … 3` by the table, takes the rows of the whole array in that order and rounds them. For the
table of a roll, `table (roll k)`, the sorted positions are the inverse roll (`order_roll`, by computation on the four entries), so
row `j` of the reference's result is row `j - k` of the array, rounded (`result_apply`). Cut into the devices' blocks, block `c`
is block `c - k` of the array as the kernel sends it (`block_result`).
-/
module

public import proofs.«01_k».proof.Proof.Values
public import proofs.«01_k».proof.Proof.Gen.ReferenceIdeal
public import Idealize.ShloMosaic.Lib.Layout

@[expose] public section

noncomputable section

namespace Cert.Permute

open Cert.ReferenceIdeal Cert.ReferenceIdeal.Gen
open Idealize.ShloMosaic Idealize.ShloMosaic.ValueIdx

variable {F : FTy → Type} [FloatOps F]

/-! ## The rolls -/

/-- The roll by `k` of the four devices: device `c` sends to device `c + k`. -/
def roll (k : Fin 4) : Fin 4 ≃ Fin 4 where
  toFun c := c + k
  invFun c := c - k
  left_inv := by revert k; decide
  right_inv := by revert k; decide

/-- The table of a permutation. -/
def table (π : Fin 4 ≃ Fin 4) : IVec S4 32 := fun i => BitVec.ofNat 32 (π (i 0)).val

/-! ## The sorted positions -/

/-- The positions sorted by the table's entries. -/
def order (T : IVec S4 32) : IVec S4 32 := (Host.sort2 S4 0 comparator_i32_i32_d0 T (iotaInDim S4 32 0)).2

/-- The row indices the reference hands to its gather: a negative position counts from the end. -/
def rows (T : IVec S4 32) : IVec S4x1 32 :=
  broadcastInDim S4x1 ![0] Facts₀.bcast_S4_S4x1_0
    (select (cmpi .slt (order T) (broadcastInDim S4 ![] Facts₀.bcast_S_S4 (constantI S_ 32 0#32)))
      (addi (order T) (broadcastInDim S4 ![] Facts₀.bcast_S_S4 (constantI S_ 32 4#32))) (order T))

/-- For a roll's table the row indices are the inverse roll. -/
theorem rows_roll (k j : Fin 4) : rows (table (roll k)) (ix2 j 0) = BitVec.ofNat 32 ((roll k).symm j).val := by
  revert k j; decide

/-! ## The rows taken -/

/-- The gather along the first axis, read at an index: the row named by the index vector, brought inside the array. -/
theorem gather_apply {α : Type} (x : S4x2048x1024.Idx → α) (idx : IVec S4x1 32) (j : Fin 4) (r : Fin 2048) (l : Fin 1024)
    (b : Fin 4) (hb : idx (ix2 j 0) = BitVec.ofNat 32 b.val) :
    Host.gather gather_S4x2048x1024_S4x1_S4x2048x1024_12_0_n_n_0_1_120481024 x idx (ix3 j r l) = x (ix3 b r l) := by
  refine congrArg x (funext fun a => Fin.ext ?_)
  match a with
  | ⟨0, _⟩ =>
    have hi : GatherDims.siIdx gather_S4x2048x1024_S4x1_S4x2048x1024_12_0_n_n_0_1_120481024 (ix3 j r l) ⟨0, by decide⟩ = ix2 j 0 := by
      funext a; match a with
      | ⟨0, _⟩ => rfl
      | ⟨1, _⟩ => rfl
    show min (idx (GatherDims.siIdx gather_S4x2048x1024_S4x1_S4x2048x1024_12_0_n_n_0_1_120481024 (ix3 j r l) ⟨0, by decide⟩)).toInt.toNat 3 = b.val
    have clamp : ∀ b : Fin 4, min (BitVec.ofNat 32 b.val).toInt.toNat 3 = b.val := by decide
    rw [hi, hb]; exact clamp b
  | ⟨1, _⟩ => show 0 + 0 + r.val = r.val; omega
  | ⟨2, _⟩ => show 0 + 0 + l.val = l.val; omega

/-! ## The result -/

/-- The reference's result. -/
def result (x : S4x2048x1024.Idx → Elt F .f32) (T : IVec S4 32) : S4x2048x1024.Idx → Elt F .bf16 :=
  truncf .bf16 (Host.gather gather_S4x2048x1024_S4x1_S4x2048x1024_12_0_n_n_0_1_120481024 (x : FVec F S4x2048x1024 .f32) (rows T))
    Facts₀.bitsLt_bf16_f32

/-- For the table of a roll, row `j` of the result is the row that the inverse roll names, rounded. -/
theorem result_apply (x : S4x2048x1024.Idx → Elt F .f32) (k j : Fin 4) (r : Fin 2048) (l : Fin 1024) :
    result x (table (roll k)) (ix3 j r l)
      = FloatOps.truncf .bf16 Facts₀.bitsLt_bf16_f32 (x (ix3 ((roll k).symm j) r l) : F .f32) :=
  congrArg (FloatOps.truncf .bf16 Facts₀.bitsLt_bf16_f32)
    (gather_apply x (rows (table (roll k))) j r l _ (rows_roll k j))

/-- Where block `c` of the whole array, cut along its first axis, has the element at row `r` and lane `l`. -/
theorem idx_block (h : Layout.Tiles ⟨3, ![1, 2048, 1024]⟩ ⟨3, ![4, 2048, 1024]⟩ 0 4) (c : Fin 4) (z : Fin 1) (r : Fin 2048)
    (l : Fin 1024) : h.idx c (ix3 z r l) = ix3 c r l := by
  funext a; apply Fin.ext; rw [Layout.Tiles.idx_val]
  match a with
  | ⟨0, _⟩ => show c.val * 1 + z.val = c.val; omega
  | ⟨1, _⟩ => rfl
  | ⟨2, _⟩ => rfl

/-- Block `c` of the reference's result, for the table of a roll, is what the kernel sends of the block that the inverse roll
    names. -/
theorem block_result (x : S4x2048x1024.Idx → Elt F .f32) (k c : Fin 4) :
    Layout.block ⟨3, ![1, 2048, 1024]⟩ ⟨3, ![4, 2048, 1024]⟩ 0 4 c (result x (table (roll k)))
      = sent (Layout.block ⟨3, ![1, 2048, 1024]⟩ ⟨3, ![4, 2048, 1024]⟩ 0 4 ((roll k).symm c) x) := by
  funext i
  obtain ⟨z, r, l, rfl⟩ : ∃ z r l, i = ix3 z r l := ⟨i 0, i 1, i 2, eq_ix3 i⟩
  rw [Layout.block_apply, idx_block, result_apply]
  exact congrArg (fun w => FloatOps.truncf .bf16 Facts₀.bitsLt_bf16_f32 (x w : F .f32))
    (idx_block _ ((roll k).symm c) 0 r l).symm

end Cert.Permute

end
-- ==== Proof.Claims.lean ====
/-
The claims.

A precondition fixes the table, on every device, as that of a roll (`says_of_rolled_1`, `_2`, `_3`). Under it `run_main` gives the
kernel's run; its frames and its values are read off that run. The kernel and its idealization have the same text, so one run,
over any float values, serves both. The reference's run is the generated one, its result read by `block_result`.
-/
module

public import proofs.«01_k».proof.Defs
public import proofs.«01_k».proof.Proof.Launch
public import proofs.«01_k».proof.Proof.Reference
public import proofs.«01_k».proof.Proof.Gen.Kernel
public import proofs.«01_k».proof.Proof.Gen.ReferenceIdeal.Run
public import proofs.«01_k».proof.Proof.Gen.Pre_rolled_1_Kernel
public import proofs.«01_k».proof.Proof.Gen.Pre_rolled_2_Kernel
public import proofs.«01_k».proof.Proof.Gen.Pre_rolled_3_Kernel
public import proofs.«01_k».proof.Proof.Gen.Pre_rolled_1_ReferenceIdeal
public import proofs.«01_k».proof.Proof.Gen.Pre_rolled_2_ReferenceIdeal
public import proofs.«01_k».proof.Proof.Gen.Pre_rolled_3_ReferenceIdeal
public import Idealize.ShloMosaic.Lib.Quiescent

@[expose] public section

noncomputable section

namespace Cert.Permute

open Idealize.ShloMosaic Idealize.ShloMosaic.TcCoe Idealize.ShloMosaic.ValueIdx
open Idealize.SL.Sem

variable {F : FTy → Type} [FloatOps F]

/-! ## What the preconditions say -/

/-- A table whose word `j` compares equal to the remainder of `j + k` by four is that of the roll by `k`. -/
theorem says_of_compare (k : Fin 4) (T : IVec Cert.KernelIdeal.S4 32)
    (h : ∀ j : Fin 4, IntOp.cmpi .eq (T (ix1 j))
      (IntOp.remsi .host (BitVec.ofNat 32 j.val + BitVec.ofNat 32 k.val) 4#32) = 1#1) : Says (roll k) T := fun j => by
  have one : ∀ b : Bool, BitVec.ofBool b = 1#1 → b = true := by decide
  have rem : ∀ k j : Fin 4, IntOp.remsi .host (BitVec.ofNat 32 j.val + BitVec.ofNat 32 k.val) 4#32
      = BitVec.ofNat 32 (roll k j).val := by decide
  exact (eq_of_beq (one _ (h j))).trans (rem k j)

/-- `rolled_1` is the roll by three, -/
theorem says_of_rolled_1 (X : FVec F Cert.KernelIdeal.S1x2048x1024 .f32) (T : IVec Cert.KernelIdeal.S4 32)
    (h : Cert.Pre_rolled_1_Kernel.fn (F := F) X T = fun _ => 1#1) : Says (roll 3) T :=
  says_of_compare 3 T fun j => congrFun h (ix1 j)

/-- `rolled_2` the roll by two, -/
theorem says_of_rolled_2 (X : FVec F Cert.KernelIdeal.S1x2048x1024 .f32) (T : IVec Cert.KernelIdeal.S4 32)
    (h : Cert.Pre_rolled_2_Kernel.fn (F := F) X T = fun _ => 1#1) : Says (roll 2) T :=
  says_of_compare 2 T fun j => congrFun h (ix1 j)

/-- and `rolled_3` the roll by one. -/
theorem says_of_rolled_3 (X : FVec F Cert.KernelIdeal.S1x2048x1024 .f32) (T : IVec Cert.KernelIdeal.S4 32)
    (h : Cert.Pre_rolled_3_Kernel.fn (F := F) X T = fun _ => 1#1) : Says (roll 1) T :=
  says_of_compare 1 T fun j => congrFun h (ix1 j)

/-- A table that says a permutation is its table. -/
theorem table_of_says (π : Fin 4 ≃ Fin 4) (T : IVec Cert.KernelIdeal.S4 32) (h : Says π T) : T = table π :=
  funext fun i => (congrArg T (eq_ix1 i)).trans (h (i 0))

/-! ## The kernel's frames -/

section Kernel
open Cert.KernelIdeal

/-- Under the table of a permutation the kernel terminates, its arguments unchanged and every counter at zero. -/
theorem frame_of (m : (ℓ : Loc nD τ sig) → Buf (Elt F) ℓ) (ρ : Dev nD → PrngReg) (π : Dev nD ≃ Dev nD)
    (h : ∀ c : Dev nD, Says π (m ((c : Thread nD τ).loc main_arg1))) :
    θ_run defs (onTc (τ := τ) (main (F := F))) ⟨m, fun _ => 0, ρ⟩ fun r =>
      (∀ c : Dev nD, r.2.mem ((c : Thread nD τ).loc main_arg0) = m ((c : Thread nD τ).loc main_arg0)
        ∧ r.2.mem ((c : Thread nD τ).loc main_arg1) = m ((c : Thread nD τ).loc main_arg1)) ∧ r.2.sem = fun _ => 0 :=
  (θ_run defs _ _).mono (fun _ h => ⟨fun c => (h.1 c).2, h.2⟩) (run_main m ρ π h)

end Kernel

/-- The kernel and its idealization have the same text: the same bodies under each label, -/
theorem bodies_eq : Cert.Kernel.defs₀ (F := F) = Cert.KernelIdeal.defs₀ (F := F) := by
  funext p ℓ a
  match p with
  | .tc => match ℓ, a with
    | 0, (t, s) => rfl
  | .scScalar _ => rfl
  | .scVector _ _ => rfl
/-- and so the same table of bodies. -/
theorem defs_eq : Cert.Kernel.defs (F := F) = Cert.KernelIdeal.defs (F := F) :=
  congrArg (Pipeline.defs Cert.KernelIdeal.pcfgs) bodies_eq

/-- So the kernel too, over any float values, terminates under the table of a permutation, its arguments unchanged and every
    counter at zero. -/
theorem frame_kernel_of (m : (ℓ : Loc Cert.Kernel.nD Cert.Kernel.τ Cert.Kernel.sig) → Buf (Elt F) ℓ)
    (ρ : Dev Cert.Kernel.nD → PrngReg) (π : Dev Cert.Kernel.nD ≃ Dev Cert.Kernel.nD)
    (h : ∀ c : Dev Cert.Kernel.nD, Says π (m ((c : Thread Cert.Kernel.nD Cert.Kernel.τ).loc Cert.Kernel.main_arg1))) :
    θ_run Cert.Kernel.defs (onTc (τ := Cert.Kernel.τ) (Cert.Kernel.main (F := F))) ⟨m, fun _ => 0, ρ⟩ fun r =>
      (∀ c : Dev Cert.Kernel.nD,
        r.2.mem ((c : Thread Cert.Kernel.nD Cert.Kernel.τ).loc Cert.Kernel.main_arg0)
            = m ((c : Thread Cert.Kernel.nD Cert.Kernel.τ).loc Cert.Kernel.main_arg0)
          ∧ r.2.mem ((c : Thread Cert.Kernel.nD Cert.Kernel.τ).loc Cert.Kernel.main_arg1)
            = m ((c : Thread Cert.Kernel.nD Cert.Kernel.τ).loc Cert.Kernel.main_arg1)) ∧ r.2.sem = fun _ => 0 := by
  rw [defs_eq]; exact frame_of m ρ π h

/-- The frame of the kernel under `rolled_1`, -/
theorem frame_kernel_1 : Cert.quiescent_Kernel := fun m ρ h =>
  frame_kernel_of m ρ (roll 3) fun c => says_of_rolled_1 _ _ (h c)
/-- under `rolled_2`, -/
theorem frame_kernel_2 : Cert.quiescent_Kernel_pre_rolled_2_Kernel := fun m ρ h =>
  frame_kernel_of m ρ (roll 2) fun c => says_of_rolled_2 _ _ (h c)
/-- and under `rolled_3`; -/
theorem frame_kernel_3 : Cert.quiescent_Kernel_pre_rolled_3_Kernel := fun m ρ h =>
  frame_kernel_of m ρ (roll 1) fun c => says_of_rolled_3 _ _ (h c)

/-- of the ideal kernel under `rolled_1`, -/
theorem frame_ideal_1 : Cert.quiescent_KernelIdeal := fun m ρ h =>
  frame_of (F := Ideal) m ρ (roll 3) fun c => says_of_rolled_1 _ _ (h c)
/-- under `rolled_2`, -/
theorem frame_ideal_2 : Cert.quiescent_KernelIdeal_pre_rolled_2_Kernel := fun m ρ h =>
  frame_of (F := Ideal) m ρ (roll 2) fun c => says_of_rolled_2 _ _ (h c)
/-- and under `rolled_3`. -/
theorem frame_ideal_3 : Cert.quiescent_KernelIdeal_pre_rolled_3_Kernel := fun m ρ h =>
  frame_of (F := Ideal) m ρ (roll 1) fun c => says_of_rolled_3 _ _ (h c)

/-! ## The reference's frames -/

section Reference
open Cert.ReferenceIdeal

/-- The reference terminates with its result at `result` of its arguments, the arguments unchanged. -/
theorem run_reference (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c : Thread nD τ).loc main_v8)
          = result (m ((c : Thread nD τ).loc main_arg0)) (m ((c : Thread nD τ).loc main_arg1))
        ∧ r.2.mem ((c : Thread nD τ).loc main_arg0) = m ((c : Thread nD τ).loc main_arg0)
        ∧ r.2.mem ((c : Thread nD τ).loc main_arg1) = m ((c : Thread nD τ).loc main_arg1) :=
  Value.run m ρ

/-- It has no semaphore, so its counters end at zero. -/
theorem frame_reference_of (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c : Thread nD τ).loc main_arg0) = m ((c : Thread nD τ).loc main_arg0)
        ∧ r.2.mem ((c : Thread nD τ).loc main_arg1) = m ((c : Thread nD τ).loc main_arg1)) ∧ r.2.sem = fun _ => 0 :=
  (θ_run defs _ _).mono (fun r h => ⟨fun c => (h c).2, sem_eq_zero_of_no_sems (by decide) r.2⟩) (run_reference m ρ)

end Reference

/-- The frame of the reference, which needs no precondition; -/
theorem frame_reference : Cert.quiescent_ReferenceIdeal := fun m ρ _ => frame_reference_of m ρ
/-- the same with `rolled_1` unused, -/
theorem frame_reference_1 : Cert.quiescent_ReferenceIdeal_pre_rolled_1_ReferenceIdeal := fun m ρ _ => frame_reference_of m ρ
/-- with `rolled_2`, -/
theorem frame_reference_2 : Cert.quiescent_ReferenceIdeal_pre_rolled_2_ReferenceIdeal := fun m ρ _ => frame_reference_of m ρ
/-- and with `rolled_3`. -/
theorem frame_reference_3 : Cert.quiescent_ReferenceIdeal_pre_rolled_3_ReferenceIdeal := fun m ρ _ => frame_reference_of m ρ

/-! ## The values -/

/-- Under the table of a roll the kernel's blocks are those of the reference's result: device `c` ends with what the device that
    the inverse roll names sent it, its own block of the whole array rounded, and the reference takes that same row. -/
theorem values_of (k : Fin 4)
    (m : (ℓ : Loc Cert.KernelIdeal.nD Cert.KernelIdeal.τ Cert.KernelIdeal.sig) → Buf (Elt F) ℓ)
    (ρ : Dev Cert.KernelIdeal.nD → PrngReg) (x : Cert.ReferenceIdeal.S4x2048x1024.Idx → Elt F .f32)
    (T : IVec Cert.ReferenceIdeal.S4 32)
    (hx : ∀ c : Dev Cert.KernelIdeal.nD, m ((c : Thread Cert.KernelIdeal.nD Cert.KernelIdeal.τ).loc Cert.KernelIdeal.main_arg0)
      = Layout.block ⟨3, ![1, 2048, 1024]⟩ ⟨3, ![4, 2048, 1024]⟩ 0 4 c x)
    (hT : ∀ c : Dev Cert.KernelIdeal.nD, m ((c : Thread Cert.KernelIdeal.nD Cert.KernelIdeal.τ).loc Cert.KernelIdeal.main_arg1) = T)
    (h : ∀ c : Dev Cert.KernelIdeal.nD,
      Says (roll k) (m ((c : Thread Cert.KernelIdeal.nD Cert.KernelIdeal.τ).loc Cert.KernelIdeal.main_arg1))) :
    θ_run Cert.KernelIdeal.defs (onTc (τ := Cert.KernelIdeal.τ) (Cert.KernelIdeal.main (F := F))) ⟨m, fun _ => 0, ρ⟩ fun r =>
      ∀ c : Dev Cert.KernelIdeal.nD,
        r.2.mem ((c : Thread Cert.KernelIdeal.nD Cert.KernelIdeal.τ).loc Cert.KernelIdeal.main_v1)
            = Layout.block ⟨3, ![1, 2048, 1024]⟩ ⟨3, ![4, 2048, 1024]⟩ 0 4 c (result x T)
          ∧ r.2.mem ((c : Thread Cert.KernelIdeal.nD Cert.KernelIdeal.τ).loc Cert.KernelIdeal.main_arg0)
            = m ((c : Thread Cert.KernelIdeal.nD Cert.KernelIdeal.τ).loc Cert.KernelIdeal.main_arg0)
          ∧ r.2.mem ((c : Thread Cert.KernelIdeal.nD Cert.KernelIdeal.τ).loc Cert.KernelIdeal.main_arg1)
            = m ((c : Thread Cert.KernelIdeal.nD Cert.KernelIdeal.τ).loc Cert.KernelIdeal.main_arg1) := by
  have hT' : T = table (roll k) := table_of_says (roll k) T (hT 0 ▸ h 0)
  refine (θ_run Cert.KernelIdeal.defs _ _).mono (fun r hr c => ⟨(hr.1 c).1.trans ?_, (hr.1 c).2⟩) (run_main m ρ (roll k) h)
  rw [hT']
  exact (congrArg sent (hx ((roll k).symm c))).trans (block_result x k c).symm

/-- Kernel and reference compute the same function over the extended reals, under `rolled_1`, -/
theorem algebraic_1 : Cert.algebraic_KernelIdeal_ReferenceIdeal := fun m ρ m' ρ' h hm =>
  ⟨_, values_of 3 m ρ _ _ (fun c => (hm c).1) (fun c => (hm c).2) fun c => says_of_rolled_1 _ _ (h c),
    (θ_run Cert.ReferenceIdeal.defs _ _).mono (fun _ hr => hr 0) (run_reference m' ρ')⟩
/-- under `rolled_2`, -/
theorem algebraic_2 : Cert.algebraic_KernelIdeal_ReferenceIdeal_pre_rolled_2_Kernel := fun m ρ m' ρ' h hm =>
  ⟨_, values_of 2 m ρ _ _ (fun c => (hm c).1) (fun c => (hm c).2) fun c => says_of_rolled_2 _ _ (h c),
    (θ_run Cert.ReferenceIdeal.defs _ _).mono (fun _ hr => hr 0) (run_reference m' ρ')⟩
/-- and under `rolled_3`. -/
theorem algebraic_3 : Cert.algebraic_KernelIdeal_ReferenceIdeal_pre_rolled_3_Kernel := fun m ρ m' ρ' h hm =>
  ⟨_, values_of 1 m ρ _ _ (fun c => (hm c).1) (fun c => (hm c).2) fun c => says_of_rolled_3 _ _ (h c),
    (θ_run Cert.ReferenceIdeal.defs _ _).mono (fun _ hr => hr 0) (run_reference m' ρ')⟩

end Cert.Permute

end
-- ==== Proof.lean ====
/-
The proof of `Cert.Claim`. The modules under Proof/ hold the mathematics:

  Chunks     the kernel's buffers, their eight chunks of rows, its semaphores
  Values     what a block holds once loaded, rounded and sent, chunk by chunk
  Protocol   who signals and who waits, with what amounts, and what each landing hands over
  Entry      the table's words and the barrier's two signals
  Steps      each kind of step of the body, once: load, wait, round, send, receive
  Transfer   the body's eight transfers, by induction over the chunks
  Deal       how the launch deals the protocol's cells and tokens to the devices
  Launch     the run of the whole program, for the table of any permutation
  Reference  what the reference computes
  Claims     the claims, read off the two runs
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_rolled_1_Kernel
public import proofs.«01_k».proof.Proof.Gen.Pre_rolled_2_Kernel
public import proofs.«01_k».proof.Proof.Gen.Pre_rolled_3_Kernel
public import proofs.«01_k».proof.Proof.Gen.Pre_rolled_1_ReferenceIdeal
public import proofs.«01_k».proof.Proof.Gen.Pre_rolled_2_ReferenceIdeal
public import proofs.«01_k».proof.Proof.Gen.Pre_rolled_3_ReferenceIdeal
public import proofs.«01_k».proof.Proof.Claims
public import Idealize.ShloMosaic.Adequacy
public import Idealize.ShloMosaic.Init

@[expose] public section

noncomputable section

namespace Cert.Proof

open Idealize.ShloMosaic Idealize.SL.Sem Cert.Kernel

/-- All the claims: the frames, that the ideal program is the kernel, and that kernel and reference compute the same. -/
theorem claim : Cert.Claim := ⟨Cert.Kernel.Gen.facts, Cert.KernelIdeal.Gen.facts, Cert.ReferenceIdeal.Gen.facts, Cert.Pre_rolled_1_Kernel.Gen.facts, Cert.Pre_rolled_2_Kernel.Gen.facts, Cert.Pre_rolled_3_Kernel.Gen.facts, Cert.Pre_rolled_1_ReferenceIdeal.Gen.facts, Cert.Pre_rolled_2_ReferenceIdeal.Gen.facts, Cert.Pre_rolled_3_ReferenceIdeal.Gen.facts,
  Permute.frame_kernel_1, Permute.frame_kernel_2, Permute.frame_kernel_3,
  Permute.frame_ideal_1, Permute.frame_ideal_2, Permute.frame_ideal_3,
  Permute.frame_reference, Permute.frame_reference_1, Permute.frame_reference_2, Permute.frame_reference_3,
  trivial, Permute.algebraic_1, Permute.algebraic_2, Permute.algebraic_3⟩

end Cert.Proof

end
